-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v41_0) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x640x18432 : Shape := ⟨3, ![2, 640, 18432]⟩
abbrev S16 : Shape := ⟨1, ![16]⟩
abbrev S2x18432x640 : Shape := ⟨3, ![2, 18432, 640]⟩
abbrev S_ : Shape := ⟨0, ![]⟩
abbrev S1 : Shape := ⟨1, ![1]⟩
abbrev S2x40x18432 : Shape := ⟨3, ![2, 40, 18432]⟩
abbrev S2x320x18432 : Shape := ⟨3, ![2, 320, 18432]⟩
abbrev S8x128 : Shape := ⟨2, ![8, 128]⟩
abbrev S1x640x512 : Shape := ⟨3, ![1, 640, 512]⟩
abbrev S1x512x640 : Shape := ⟨3, ![1, 512, 640]⟩
abbrev S1x40x512 : Shape := ⟨3, ![1, 40, 512]⟩
abbrev S1x320x512 : Shape := ⟨3, ![1, 320, 512]⟩
abbrev S128x128 : Shape := ⟨2, ![128, 128]⟩
abbrev S80x128 : Shape := ⟨2, ![80, 128]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S1x8x128 : Shape := ⟨3, ![1, 8, 128]⟩
abbrev S16x128 : Shape := ⟨2, ![16, 128]⟩
abbrev S64x128 : Shape := ⟨2, ![64, 128]⟩
abbrev S1x64x128 : Shape := ⟨3, ![1, 64, 128]⟩
abbrev S40x128 : Shape := ⟨2, ![40, 128]⟩
abbrev S1x40x128 : Shape := ⟨3, ![1, 40, 128]⟩

abbrev nBuf : Space → Nat
  | .hbm => 9
  | .vmem => 14
  | .smem => 2
  | _ => 0

abbrev bufTy : (tb : Table) → Fin (tcTables nBuf tb) → BufTy
  | .hbm, ⟨0, _⟩ => ⟨S2x640x18432, .bf16⟩
  | .hbm, ⟨1, _⟩ => ⟨S16, .f32⟩
  | .hbm, ⟨2, _⟩ => ⟨S2x18432x640, .i8⟩
  | .hbm, ⟨3, _⟩ => ⟨S_, .f32⟩
  | .hbm, ⟨4, _⟩ => ⟨S1, .f32⟩
  | .hbm, ⟨5, _⟩ => ⟨S2x40x18432, .f32⟩
  | .hbm, ⟨6, _⟩ => ⟨S2x320x18432, .i8⟩
  | .hbm, ⟨7, _⟩ => ⟨S2x40x18432, .fp8e4m3⟩
  | .hbm, ⟨8, _⟩ => ⟨S8x128, .f32⟩
  | .local _ .vmem, ⟨0, _⟩ => ⟨S1x640x512, .bf16⟩
  | .local _ .vmem, ⟨1, _⟩ => ⟨S1x640x512, .bf16⟩
  | .local _ .vmem, ⟨2, _⟩ => ⟨S1x512x640, .i8⟩
  | .local _ .vmem, ⟨3, _⟩ => ⟨S1x512x640, .i8⟩
  | .local _ .vmem, ⟨4, _⟩ => ⟨S1x40x512, .f32⟩
  | .local _ .vmem, ⟨5, _⟩ => ⟨S1x40x512, .f32⟩
  | .local _ .vmem, ⟨6, _⟩ => ⟨S1x320x512, .i8⟩
  | .local _ .vmem, ⟨7, _⟩ => ⟨S1x320x512, .i8⟩
  | .local _ .vmem, ⟨8, _⟩ => ⟨S1x40x512, .fp8e4m3⟩
  | .local _ .vmem, ⟨9, _⟩ => ⟨S1x40x512, .fp8e4m3⟩
  | .local _ .vmem, ⟨10, _⟩ => ⟨S8x128, .f32⟩
  | .local _ .vmem, ⟨11, _⟩ => ⟨S128x128, .bf16⟩
  | .local _ .vmem, ⟨12, _⟩ => ⟨S128x128, .bf16⟩
  | .local _ .vmem, ⟨13, _⟩ => ⟨S80x128, .i32⟩
  | .local _ .smem, ⟨0, _⟩ => ⟨S16, .f32⟩
  | .local _ .smem, ⟨1, _⟩ => ⟨S1, .f32⟩
  | _, _ => ⟨S2x640x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 36], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x320x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x40x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2x640x18432 : Shape := ⟨3, ![2, 640, 18432]⟩
abbrev S16 : Shape := ⟨1, ![16]⟩
abbrev S2x18432x640 : Shape := ⟨3, ![2, 18432, 640]⟩
abbrev S_ : Shape := ⟨0, ![]⟩
abbrev S16x16 : Shape := ⟨2, ![16, 16]⟩
abbrev S1x16 : Shape := ⟨2, ![1, 16]⟩
abbrev S2x40x16x18432 : Shape := ⟨4, ![2, 40, 16, 18432]⟩
abbrev S2x40x18432x16 : Shape := ⟨4, ![2, 40, 18432, 16]⟩
abbrev S2x40x18432 : Shape := ⟨3, ![2, 40, 18432]⟩
abbrev S2x40x1x18432 : Shape := ⟨4, ![2, 40, 1, 18432]⟩
abbrev S2x18432x40x16 : Shape := ⟨4, ![2, 18432, 40, 16]⟩
abbrev S2x40x8x2x18432 : Shape := ⟨5, ![2, 40, 8, 2, 18432]⟩
abbrev S2x40x8x1x18432 : Shape := ⟨5, ![2, 40, 8, 1, 18432]⟩
abbrev S2x40x8x18432 : Shape := ⟨4, ![2, 40, 8, 18432]⟩
abbrev S2x320x18432 : Shape := ⟨3, ![2, 320, 18432]⟩
abbrev S8x128 : Shape := ⟨2, ![8, 128]⟩

abbrev nBuf : Space → Nat
  | .hbm => 167
  | .vmem => 3
  | .smem => 0
  | _ => 0

abbrev hbmTy0_0 (i : Nat) : BufTy := match i % 128 with
  | 0 => ⟨S2x640x18432, .bf16⟩
  | 1 => ⟨S16, .f32⟩
  | 2 => ⟨S2x18432x640, .i8⟩
  | 3 => ⟨S_, .f32⟩
  | 4 => ⟨S16x16, .i32⟩
  | 5 => ⟨S16x16, .i32⟩
  | 6 => ⟨S_, .i32⟩
  | 7 => ⟨S16x16, .i32⟩
  | 8 => ⟨S16x16, .i32⟩
  | 9 => ⟨S16x16, .i32⟩
  | 10 => ⟨S16x16, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .i32⟩
  | 17 => ⟨S16x16, .i32⟩
  | 18 => ⟨S_, .i32⟩
  | 19 => ⟨S16x16, .i32⟩
  | 20 => ⟨S16x16, .i32⟩
  | 21 => ⟨S16x16, .i32⟩
  | 22 => ⟨S16x16, .i32⟩
  | 23 => ⟨S16x16, .i32⟩
  | 24 => ⟨S16x16, .f32⟩
  | 25 => ⟨S_, .f32⟩
  | 26 => ⟨S16x16, .f32⟩
  | 27 => ⟨S16x16, .f32⟩
  | 28 => ⟨S_, .f32⟩
  | 29 => ⟨S16x16, .f32⟩
  | 30 => ⟨S16x16, .f32⟩
  | 31 => ⟨S_, .f32⟩
  | 32 => ⟨S16x16, .f32⟩
  | 33 => ⟨S16x16, .f32⟩
  | 34 => ⟨S1x16, .f32⟩
  | 35 => ⟨S16x16, .f32⟩
  | 36 => ⟨S16x16, .f32⟩
  | 37 => ⟨S16x16, .bf16⟩
  | 38 => ⟨S2x40x16x18432, .bf16⟩
  | 39 => ⟨S2x40x18432x16, .f32⟩
  | 40 => ⟨S2x40x16x18432, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S2x40x16x18432, .f32⟩
  | 49 => ⟨S_, .f32⟩
  | 50 => ⟨S2x40x18432, .f32⟩
  | 51 => ⟨S_, .f32⟩
  | 52 => ⟨S_, .f32⟩
  | 53 => ⟨S2x40x18432, .f32⟩
  | 54 => ⟨S2x40x18432, .f32⟩
  | 55 => ⟨S_, .f32⟩
  | 56 => ⟨S2x40x18432, .f32⟩
  | 57 => ⟨S2x40x18432, .f32⟩
  | 58 => ⟨S2x40x18432, .fp8e4m3⟩
  | 59 => ⟨S2x40x18432, .f32⟩
  | 60 => ⟨S2x40x18432, .f32⟩
  | 61 => ⟨S2x40x18432, .f32⟩
  | 62 => ⟨S2x40x1x18432, .f32⟩
  | 63 => ⟨S_, .f32⟩
  | 64 => ⟨S2x40x1x18432, .f32⟩
  | 65 => ⟨S2x40x1x18432, .i1⟩
  | 66 => ⟨S_, .f32⟩
  | 67 => ⟨S_, .f32⟩
  | 68 => ⟨S2x40x1x18432, .f32⟩
  | 69 => ⟨S2x40x1x18432, .f32⟩
  | 70 => ⟨S2x40x16x18432, .f32⟩
  | 71 => ⟨S2x40x16x18432, .f32⟩
  | 72 => ⟨S_, .f32⟩
  | 73 => ⟨S_, .f32⟩
  | 74 => ⟨S2x40x16x18432, .i1⟩
  | 75 => ⟨S2x40x16x18432, .f32⟩
  | 76 => ⟨S2x40x16x18432, .f32⟩
  | 77 => ⟨S_, .f32⟩
  | 78 => ⟨S_, .f32⟩
  | 79 => ⟨S_, .f32⟩
  | 80 => ⟨S2x40x16x18432, .f32⟩
  | 81 => ⟨S2x40x16x18432, .f32⟩
  | 82 => ⟨S_, .f32⟩
  | 83 => ⟨S2x40x16x18432, .f32⟩
  | 84 => ⟨S2x40x16x18432, .f32⟩
  | 85 => ⟨S2x40x16x18432, .f32⟩
  | 86 => ⟨S_, .f32⟩
  | 87 => ⟨S2x40x16x18432, .f32⟩
  | 88 => ⟨S2x40x16x18432, .i1⟩
  | 89 => ⟨S_, .f32⟩
  | 90 => ⟨S2x40x16x18432, .f32⟩
  | 91 => ⟨S2x40x16x18432, .i1⟩
  | 92 => ⟨S_, .f32⟩
  | 93 => ⟨S_, .f32⟩
  | 94 => ⟨S2x40x16x18432, .f32⟩
  | 95 => ⟨S2x40x16x18432, .f32⟩
  | 96 => ⟨S2x40x16x18432, .f32⟩
  | 97 => ⟨S_, .f32⟩
  | 98 => ⟨S2x40x16x18432, .f32⟩
  | 99 => ⟨S2x40x16x18432, .f32⟩
  | 100 => ⟨S2x40x16x18432, .f32⟩
  | 101 => ⟨S2x40x16x18432, .f32⟩
  | 102 => ⟨S2x40x16x18432, .f32⟩
  | 103 => ⟨S2x40x16x18432, .f32⟩
  | 104 => ⟨S2x40x16x18432, .f32⟩
  | 105 => ⟨S2x40x16x18432, .f32⟩
  | 106 => ⟨S2x40x16x18432, .f32⟩
  | 107 => ⟨S2x40x16x18432, .f32⟩
  | 108 => ⟨S2x18432x40x16, .i8⟩
  | 109 => ⟨S2x40x16x18432, .i8⟩
  | 110 => ⟨S2x40x16x18432, .i32⟩
  | 111 => ⟨S2x40x16x18432, .f32⟩
  | 112 => ⟨S_, .f32⟩
  | 113 => ⟨S2x40x16x18432, .f32⟩
  | 114 => ⟨S2x40x16x18432, .f32⟩
  | 115 => ⟨S_, .f32⟩
  | 116 => ⟨S2x40x16x18432, .f32⟩
  | 117 => ⟨S2x40x16x18432, .f32⟩
  | 118 => ⟨S2x40x16x18432, .i1⟩
  | 119 => ⟨S2x40x16x18432, .f32⟩
  | 120 => ⟨S2x40x16x18432, .f32⟩
  | 121 => ⟨S2x40x16x18432, .f32⟩
  | 122 => ⟨S2x40x16x18432, .f32⟩
  | 123 => ⟨S_, .f32⟩
  | 124 => ⟨S2x40x16x18432, .f32⟩
  | 125 => ⟨S2x40x16x18432, .i1⟩
  | 126 => ⟨S_, .f32⟩
  | 127 => ⟨S2x40x16x18432, .f32⟩
  | _ => ⟨S2x640x18432, .bf16⟩

abbrev hbmTy0_1 (i : Nat) : BufTy := match i % 128 with
  | 0 => ⟨S2x40x16x18432, .f32⟩
  | 1 => ⟨S_, .f32⟩
  | 2 => ⟨S2x40x16x18432, .f32⟩
  | 3 => ⟨S2x40x16x18432, .i1⟩
  | 4 => ⟨S_, .f32⟩
  | 5 => ⟨S2x40x16x18432, .f32⟩
  | 6 => ⟨S2x40x16x18432, .f32⟩
  | 7 => ⟨S_, .f32⟩
  | 8 => ⟨S2x40x16x18432, .f32⟩
  | 9 => ⟨S2x40x16x18432, .f32⟩
  | 10 => ⟨S_, .f32⟩
  | 11 => ⟨S2x40x16x18432, .f32⟩
  | 12 => ⟨S2x40x16x18432, .f32⟩
  | 13 => ⟨S2x40x16x18432, .f32⟩
  | 14 => ⟨S2x40x16x18432, .f32⟩
  | 15 => ⟨S2x40x16x18432, .i32⟩
  | 16 => ⟨S_, .f32⟩
  | 17 => ⟨S2x40x16x18432, .f32⟩
  | 18 => ⟨S2x40x16x18432, .i1⟩
  | 19 => ⟨S_, .i32⟩
  | 20 => ⟨S2x40x16x18432, .i32⟩
  | 21 => ⟨S2x40x16x18432, .i1⟩
  | 22 => ⟨S2x40x16x18432, .i1⟩
  | 23 => ⟨S_, .i32⟩
  | 24 => ⟨S2x40x16x18432, .i32⟩
  | 25 => ⟨S2x40x16x18432, .i32⟩
  | 26 => ⟨S2x40x16x18432, .i32⟩
  | 27 => ⟨S2x40x8x2x18432, .i32⟩
  | 28 => ⟨S2x40x8x1x18432, .i32⟩
  | 29 => ⟨S2x40x8x18432, .i32⟩
  | 30 => ⟨S2x40x8x1x18432, .i32⟩
  | 31 => ⟨S2x40x8x18432, .i32⟩
  | 32 => ⟨S_, .i32⟩
  | 33 => ⟨S2x40x8x18432, .i32⟩
  | 34 => ⟨S2x40x8x18432, .i32⟩
  | 35 => ⟨S2x40x8x18432, .i32⟩
  | 36 => ⟨S2x320x18432, .i32⟩
  | 37 => ⟨S2x320x18432, .i8⟩
  | 38 => ⟨S8x128, .f32⟩
  | _ => ⟨S2x640x18432, .bf16⟩

abbrev hbmTy (i : Nat) : BufTy := match i / 128 with
  | 0 => hbmTy0_0 i
  | 1 => hbmTy0_1 i
  | _ => ⟨S2x640x18432, .bf16⟩

abbrev bufTy : (tb : Table) → Fin (tcTables nBuf tb) → BufTy
  | .hbm, ⟨i, _⟩ => hbmTy i
  | .local _ .vmem, ⟨0, _⟩ => ⟨S2x40x18432, .f32⟩
  | .local _ .vmem, ⟨1, _⟩ => ⟨S2x40x18432, .fp8e4m3⟩
  | .local _ .vmem, ⟨2, _⟩ => ⟨S2x40x18432, .f32⟩
  | _, _ => ⟨S2x640x18432, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_cst_6 : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v50 : Ref sig .tc := ⟨.hbm, 76, rfl⟩
abbrev main_cst_13 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_v53 : Ref sig .tc := ⟨.hbm, 87, rfl⟩
abbrev main_v54 : Ref sig .tc := ⟨.hbm, 88, rfl⟩
abbrev main_cst_16 : Ref sig .tc := ⟨.hbm, 89, rfl⟩
abbrev main_v55 : Ref sig .tc := ⟨.hbm, 90, rfl⟩
abbrev main_v56 : Ref sig .tc := ⟨.hbm, 91, rfl⟩
abbrev main_cst_17 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v57 : Ref sig .tc := ⟨.hbm, 96, rfl⟩
abbrev main_cst_19 : Ref sig .tc := ⟨.hbm, 97, rfl⟩
abbrev main_call5_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_20 : Ref sig .tc := ⟨.hbm, 112, rfl⟩
abbrev main_v71 : Ref sig .tc := ⟨.hbm, 113, rfl⟩
abbrev main_v72 : Ref sig .tc := ⟨.hbm, 114, rfl⟩
abbrev main_cst_21 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_22 : Ref sig .tc := ⟨.hbm, 123, rfl⟩
abbrev main_v80 : Ref sig .tc := ⟨.hbm, 124, rfl⟩
abbrev main_v81 : Ref sig .tc := ⟨.hbm, 125, rfl⟩
abbrev main_cst_23 : Ref sig .tc := ⟨.hbm, 126, rfl⟩
abbrev main_v82 : Ref sig .tc := ⟨.hbm, 127, rfl⟩
abbrev main_v83 : Ref sig .tc := ⟨.hbm, 128, rfl⟩
abbrev main_cst_24 : Ref sig .tc := ⟨.hbm, 129, rfl⟩
abbrev main_v84 : Ref sig .tc := ⟨.hbm, 130, rfl⟩
abbrev main_v85 : Ref sig .tc := ⟨.hbm, 131, rfl⟩
abbrev main_cst_25 : Ref sig .tc := ⟨.hbm, 132, rfl⟩
abbrev main_v86 : Ref sig .tc := ⟨.hbm, 133, rfl⟩
abbrev main_v87 : Ref sig .tc := ⟨.hbm, 134, rfl⟩
abbrev main_cst_26 : Ref sig .tc := ⟨.hbm, 135, rfl⟩
abbrev main_v88 : Ref sig .tc := ⟨.hbm, 136, rfl⟩
abbrev main_v89 : Ref sig .tc := ⟨.hbm, 137, rfl⟩
abbrev main_cst_27 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_cst_28 : Ref sig .tc := ⟨.hbm, 144, rfl⟩
abbrev main_v95 : Ref sig .tc := ⟨.hbm, 145, rfl⟩
abbrev main_v96 : Ref sig .tc := ⟨.hbm, 146, rfl⟩
abbrev main_c_29 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_c_30 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_31 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x40x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x40x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x40x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
/- One block of the kernel's body as a function of what it loads: eight rows of blocks by 128 lanes. The body computes twenty
   of them at a grid point; `blk` numbers them in the order of their stores. -/
module

public import proofs.«01_k».proof.Proof.Gen.KernelIdeal.Value

@[expose] public section

noncomputable section

namespace Cert.Quant

open Cert.KernelIdeal Cert.KernelIdeal.Gen Idealize.ShloMosaic Idealize.ShloMosaic.TcCoe Idealize.SL.Sem

variable {F : FTy → Type} [FloatOps F]

/-! ## The block's number: column half, group of rows, lane half -/

abbrev bc (b : Fin 20) : ℕ := b.val / 10
abbrev bg (b : Fin 20) : ℕ := b.val % 10 / 2
abbrev bh (b : Fin 20) : ℕ := b.val % 2

theorem inb_x (b : Fin 20) : ∀ a, (![0, 128 * bg b, 256 * bc b] : Fin 3 → ℕ) a + S1x128x256.size a ≤ S1x640x512.size a := by
  revert b; decide
theorem inb_p (b : Fin 20) : ∀ a, (![0, 256 * bc b, 128 * bg b] : Fin 3 → ℕ) a + S1x256x128.size a ≤ S1x512x640.size a := by
  revert b; decide
theorem inb_amax (b : Fin 20) : ∀ a, (![0, 8 * bg b, 256 * bc b + 128 * bh b] : Fin 3 → ℕ) a + S1x8x128.size a ≤ S1x40x512.size a := by
  revert b; decide
theorem inb_codes (b : Fin 20) : ∀ a, (![0, 64 * bg b, 256 * bc b + 128 * bh b] : Fin 3 → ℕ) a + S1x64x128.size a ≤ S1x320x512.size a := by
  revert b; decide
theorem inb_word (b : Fin 20) : ∀ a, (![16 * bg b, 0] : Fin 2 → ℕ) a + S16x128.size a ≤ S80x128.size a := by
  revert b; decide
theorem inb_half (b : Fin 20) (e : Fin 2) : ∀ a, S8x128.size a = 0 ∨ (![16 * bg b + e.val, 0] : Fin 2 → ℕ) a + (![2, 1] : Fin 2 → ℕ) a * (S8x128.size a - 1) < S80x128.size a := by
  revert b e; decide
theorem sl_w (h : Fin 2) (i : Fin 16) : S128x256.Slices ![8 * i.val, 128 * h.val] S8x128 := by revert h i; decide

/-! ## The block's arithmetic -/

/-- A float constant over the tile. -/
abbrev cF (v : BitVec 32) : FVec F S8x128 .f32 := broadcast S8x128 (Scalar.ofBits .f32 v : F .f32)

def tileW (W : FVec F S128x256 .f32) (h : Fin 2) (i : Fin 16) : FVec F S8x128 .f32 :=
  extractStridedSlice S8x128 ![8 * i.val, 128 * h.val] W (sl_w h i)

/-- The largest magnitude over the sixteen tiles. -/
def amaxV (w : Fin 16 → FVec F S8x128 .f32) : FVec F S8x128 .f32 :=
  maximumf (maximumf (maximumf (maximumf (maximumf (maximumf (maximumf (maximumf (maximumf (maximumf (maximumf (maximumf (maximumf (maximumf (maximumf (absf (w 0)) (absf (w 1))) (absf (w 2))) (absf (w 3))) (absf (w 4))) (absf (w 5))) (absf (w 6))) (absf (w 7))) (absf (w 8))) (absf (w 9))) (absf (w 10))) (absf (w 11))) (absf (w 12))) (absf (w 13))) (absf (w 14))) (absf (w 15))

/-- The block scale, rounded to eight bits and read back. -/
def sbfV (m ts6 : FVec F S8x128 .f32) : FVec F S8x128 .f32 :=
  extf .f32 (truncf .fp8e4m3 (minimumf (divf m ts6) (cF 0x43E00000#32)) bitsLt_fp8e4m3_f32) bitsLt_fp8e4m3_f32

/-- The reciprocal of a positive decoding scale, else zero. -/
def invV (dec : FVec F S8x128 .f32) : FVec F S8x128 .f32 :=
  select (cmpf .ogt dec (cF 0x00000000#32)) (divf (cF 0x3F800000#32) (select (cmpf .ogt dec (cF 0x00000000#32)) dec (cF 0x3F800000#32)))
    (cF 0x00000000#32)

/-- A scaled magnitude plus the larger of it and one. -/
def sumV (w inv : FVec F S8x128 .f32) : FVec F S8x128 .f32 :=
  addf (mulf (absf w) inv) (maximumf (mulf (absf w) inv) (cF 0x3F800000#32))

/-- The word of a sum of at least one. -/
def wordV (s : FVec F S8x128 .f32) : IVec S8x128 32 :=
  addi (fptosi 32 (ceil (mulf (minimumf s (cF 0x41800000#32))
      (select (cmpf .olt (minimumf s (cF 0x41800000#32)) (cF 0x40000000#32)) (cF 0x4B000000#32)
        (select (cmpf .olt (minimumf s (cF 0x41800000#32)) (cF 0x40800000#32)) (cF 0x4A800000#32)
          (select (cmpf .olt (minimumf s (cF 0x41800000#32)) (cF 0x41000000#32)) (cF 0x4A000000#32) (cF 0x49800000#32)))))))
    (select (cmpf .olt (minimumf s (cF 0x41800000#32)) (cF 0x40000000#32)) (broadcast S8x128 1056964608#32)
      (select (cmpf .olt (minimumf s (cF 0x41800000#32)) (cF 0x40800000#32)) (broadcast S8x128 1065353216#32)
        (select (cmpf .olt (minimumf s (cF 0x41800000#32)) (cF 0x41000000#32)) (broadcast S8x128 1073741824#32) (broadcast S8x128 1082130432#32))))

/-- The word of the noise plus its offset. -/
def noiseV (n : FVec F S8x128 .f32) : IVec S8x128 32 :=
  addi (fptosi 32 (mulf (addf n (cF 0x1F00A001#32)) (cF 0x6B800000#32))) (broadcast S8x128 511705088#32)

/-- The rounded, clipped upper half of a word. -/
def clipV (t : IVec S8x128 32) : IVec S8x128 32 :=
  minsi (shrui (addi (addi t (broadcast S8x128 32767#32)) (andi (shrui t (broadcast S8x128 16#32)) (broadcast S8x128 1#32)))
    (broadcast S8x128 16#32)) (broadcast S8x128 8767#32)

/-- The sign bit of a tile, as bit fifteen. -/
def signV (W : FVec F S8x128 .f32) : IVec S8x128 32 :=
  select (cmpf .olt W (cF 0x00000000#32)) (broadcast S8x128 32768#32) (broadcast S8x128 0#32)

/-- Two halves of a word. -/
def packV (lo hi : IVec S8x128 32) : IVec S8x128 32 := ori lo (shli hi (broadcast S8x128 16#32))
abbrev maskV : IVec S8x128 32 := broadcast S8x128 16711935#32

/-- Four code words, one to a byte. -/
def codes4 (t0 t2 t4 t6 : IVec S8x128 32) : IVec S8x128 32 :=
  ori (andi (shrui (packV t0 t4) (broadcast S8x128 6#32)) maskV)
    (andi (shli (packV t2 t6) (broadcast S8x128 2#32)) (xori maskV (constantI S8x128 32 4294967295#32)))
/-- Four signs, one to a byte's top bit. -/
def signs4 (s0 s2 s4 s6 : IVec S8x128 32) : IVec S8x128 32 :=
  ori (andi (shrui (packV s0 s4) (broadcast S8x128 8#32)) maskV)
    (andi (packV s2 s6) (xori maskV (constantI S8x128 32 4294967295#32)))

/-- The eight nibbles of a word from two words of codes and two of signs. -/
def nibV (even odd evenS oddS : IVec S8x128 32) : IVec S8x128 32 :=
  addi (subi (addi even (shli odd (broadcast S8x128 4#32))) (broadcast S8x128 2576980369#32))
    (andi (addi (addi even (shli odd (broadcast S8x128 4#32))) (broadcast S8x128 3722304998#32))
      (ori (andi oddS (broadcast S8x128 2155905152#32)) (andi (shrui evenS (broadcast S8x128 4#32)) (broadcast S8x128 134744072#32))))

/-- One half's words: eight code tiles and eight sign tiles. -/
def halfV (t s : Fin 8 → IVec S8x128 32) : IVec S8x128 32 :=
  shapeCast S8x128 (nibV (codes4 (t 0) (t 2) (t 4) (t 6)) (codes4 (t 1) (t 3) (t 5) (t 7))
    (signs4 (s 0) (s 2) (s 4) (s 6)) (signs4 (s 1) (s 3) (s 5) (s 7))) shapeCasts_S8x128_S8x128

/-- Sixteen rows of words as bytes. -/
def bytesV (V : Vec F S16x128 .i32) : IVec S1x64x128 8 :=
  shapeCast S1x64x128 (bitcast S64x128 8 V bitcasts_S16x128_w32_S64x128_w8) shapeCasts_S64x128_S1x64x128

/-! ## A block over what the body loads -/

section Block
variable (R P : Vec F S128x128 .bf16) (X : Fin 20 → Vec F S1x128x256 .bf16) (Y : Fin 20 → Vec F S1x256x128 .i8) (z : Elt F .f32) (b : Fin 20)

def bhF (b : Fin 20) : Fin 2 := ⟨b.val % 2, Nat.mod_lt _ (by decide)⟩
def wB : Fin 16 → FVec F S8x128 .f32 := tileW (k0_pay16 R (X b)) (bhF b)
def amaxB : FVec F S8x128 .f32 := amaxV (wB R X b)
def sbfB : FVec F S8x128 .f32 := sbfV (amaxB R X b) (k0_pay15 z)
def invB : FVec F S8x128 .f32 := invV (mulf (sbfB R X z b) (k0_pay14 z))
def codeB (i : Fin 16) : IVec S8x128 32 :=
  clipV (subi (wordV (sumV (wB R X b i) (invB R X z b))) (noiseV (tileW (k0_pay17 (Y b) P) (bhF b) i)))
def sgnB (i : Fin 16) : IVec S8x128 32 := signV (wB R X b i)
def halfB (e : Fin 2) : IVec S8x128 32 :=
  halfV (fun k => codeB R P X Y z b ⟨8 * e.val + k.val, by omega⟩) (fun k => sgnB R X b ⟨8 * e.val + k.val, by omega⟩)

/-- What the block stores into the magnitudes' output. -/
def amaxPiece : View.Piece (Elt F) S1x40x512 .f32 :=
  ⟨Rect.unit ![0, 8 * bg b, 256 * bc b + 128 * bh b] S1x8x128.size (inb_amax b), shapeCast S1x8x128 (amaxB R X b) shapeCasts_S8x128_S1x8x128⟩

/-- The two strided stores of the block's words. -/
def halfPiece (e : Fin 2) : View.Piece (Elt F) S80x128 .i32 :=
  ⟨{ off := ![16 * bg b + e.val, 0], size := S8x128.size, stride := ![2, 1], inb := inb_half b e, stride_pos := spos_2_1 }, halfB R P X Y z b e⟩

/-- The words stored so far, the last block's first. -/
def wordPieces : List (Fin 20) → List (View.Piece (Elt F) S80x128 .i32)
  | [] => []
  | b :: bs => halfPiece R P X Y z b 1 :: halfPiece R P X Y z b 0 :: wordPieces bs

/-- What the blocks store into the codes' output: each block's words read back, byte by byte. -/
def codePieces {sig : RefSig} {κ : Kind} {sp : Space} (v : View sig κ sp S80x128 .i32) : List (Fin 20) → List (View.Piece (Elt F) S1x320x512 .i8)
  | [] => []
  | b :: bs => ⟨Rect.unit ![0, 64 * bg b, 256 * bc b + 128 * bh b] S1x64x128.size (inb_codes b),
      bytesV (F := F) (v.readCov (wordPieces R P X Y z (b :: bs)) (Rect.unit (s := S80x128) ![16 * bg b, 0] S16x128.size (inb_word b)).toLoadRect)⟩ ::
      codePieces v bs

end Block

/-- The block of column half `j / 2`, group `g` and lane half `j % 2`. -/
abbrev blkOf (j : Fin 4) (g : Fin 5) : Fin 20 := ⟨10 * (j.val / 2) + 2 * g.val + j.val % 2, by omega⟩

theorem inb_sb (j : Fin 4) : ∀ a, (![0, 0, 128 * j.val] : Fin 3 → ℕ) a + S1x40x128.size a ≤ S1x40x512.size a := by
  revert j; decide

/-- What the body stores into the scales' output: five blocks' scales, stacked. -/
def sbPiece (R : Vec F S128x128 .bf16) (X : Fin 20 → Vec F S1x128x256 .bf16) (z : Elt F .f32) (j : Fin 4) : View.Piece (Elt F) S1x40x512 .fp8e4m3 :=
  ⟨Rect.unit ![0, 0, 128 * j.val] S1x40x128.size (inb_sb j), shapeCast S1x40x128 (truncf .fp8e4m3 (concatenate S40x128 0
    [⟨S8x128, sbfB R X z (blkOf j 0)⟩, ⟨S8x128, sbfB R X z (blkOf j 1)⟩, ⟨S8x128, sbfB R X z (blkOf j 2)⟩, ⟨S8x128, sbfB R X z (blkOf j 3)⟩,
      ⟨S8x128, sbfB R X z (blkOf j 4)⟩] concatenates_S8x128_S8x128_S8x128_S8x128_S8x128_S40x128_d0) bitsLt_fp8e4m3_f32) shapeCasts_S40x128_S1x40x128⟩

/-- What the body loads: a block's columns of its group of rows, the block's random bytes, the previous magnitude. -/
def loadX (arg4 : Memref sig .tc .vmem S1x640x512 .bf16) (harg4 : arg4.IsWhole) (x2 : Vec F S1x640x512 .bf16) (b : Fin 20) : Vec F S1x128x256 .bf16 :=
  View.readAt (Elt F) arg4.view (Rect.unit (s := S1x640x512) ![0, 128 * bg b, 256 * bc b] S1x128x256.size (inb_x b)).toLoadRect (harg4.unread x2)
def loadY (arg5 : Memref sig .tc .vmem S1x512x640 .i8) (harg5 : arg5.IsWhole) (x3 : Vec F S1x512x640 .i8) (b : Fin 20) : Vec F S1x256x128 .i8 :=
  View.readAt (Elt F) arg5.view (Rect.unit (s := S1x512x640) ![0, 256 * bc b, 128 * bg b] S1x256x128.size (inb_p b)).toLoadRect (harg5.unread x3)

/-- The blocks, the last first. -/
def blks : List (Fin 20) := [⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

end Cert.Quant

end
-- ==== Proof.BridgeA.lean ====
/- The stores of a grid point that builds the matrices, named by the blocks. -/
module

public import proofs.«01_k».proof.Proof.Block

@[expose] public section

set_option maxRecDepth 100000

noncomputable section

namespace Cert.Quant

open Cert.KernelIdeal Cert.KernelIdeal.Gen Idealize.ShloMosaic Idealize.ShloMosaic.TcCoe Idealize.SL.Sem

variable {F : FTy → Type} [FloatOps F]

section
variable  (c : Dev nD) (i : grid0.Coords) (arg2 : Memref sig .tc .smem S16 .f32) (harg2 : arg2.IsWhole) (arg3 : Memref sig .tc .smem S1 .f32) (harg3 : arg3.IsWhole) (arg4 : Memref sig .tc .vmem S1x640x512 .bf16) (harg4 : arg4.IsWhole) (arg5 : Memref sig .tc .vmem S1x512x640 .i8) (harg5 : arg5.IsWhole) (arg6 : Memref sig .tc .vmem S1x40x512 .f32) (harg6 : arg6.IsWhole) (arg7 : Memref sig .tc .vmem S1x320x512 .i8) (harg7 : arg7.IsWhole) (arg8 : Memref sig .tc .vmem S1x40x512 .fp8e4m3) (harg8 : arg8.IsWhole) (arg9 : Memref sig .tc .vmem S8x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S80x128 .i32) (harg12 : arg12.IsWhole) (hc0 : cond0_0 i) (x0 : Vec F S16 .f32) (x1 : Vec F S1 .f32) (x2 : Vec F S1x640x512 .bf16) (x3 : Vec F S1x512x640 .i8)

theorem amax_A : (kernelRun0_A c i arg2 harg2 arg3 harg3 arg4 harg4 arg5 harg5 arg6 harg6 arg7 harg7 arg8 harg8 arg9 harg9 arg10 harg10 arg11 harg11 arg12 harg12 hc0 x0 x1 x2 x3).1 = blks.map (amaxPiece (kernelRun0_A.sl.v16 c arg2 harg2 arg10 x0) (loadX arg4 harg4 x2)) := by
  sl_kernel_rfl

theorem codes_A : (kernelRun0_A c i arg2 harg2 arg3 harg3 arg4 harg4 arg5 harg5 arg6 harg6 arg7 harg7 arg8 harg8 arg9 harg9 arg10 harg10 arg11 harg11 arg12 harg12 hc0 x0 x1 x2 x3).2.1 = codePieces (kernelRun0_A.sl.v16 c arg2 harg2 arg10 x0) (kernelRun0_A.sl.v23 c arg11) (loadX arg4 harg4 x2) (loadY arg5 harg5 x3) (kernelRun0_A.sl.r_18 c arg3 harg3 x1) arg12.view blks := by
  sl_kernel_rfl

theorem sb_A : (kernelRun0_A c i arg2 harg2 arg3 harg3 arg4 harg4 arg5 harg5 arg6 harg6 arg7 harg7 arg8 harg8 arg9 harg9 arg10 harg10 arg11 harg11 arg12 harg12 hc0 x0 x1 x2 x3).2.2.1 = [3,2,1,0].map (sbPiece (kernelRun0_A.sl.v16 c arg2 harg2 arg10 x0) (loadX arg4 harg4 x2) (kernelRun0_A.sl.r_18 c arg3 harg3 x1)) := by
  sl_kernel_rfl

theorem ts_A : (kernelRun0_A c i arg2 harg2 arg3 harg3 arg4 harg4 arg5 harg5 arg6 harg6 arg7 harg7 arg8 harg8 arg9 harg9 arg10 harg10 arg11 harg11 arg12 harg12 hc0 x0 x1 x2 x3).2.2.2.1 = [⟨Rect.unit ![0, 0] S8x128.size inb_S8x128_S8x128_0_0, k0_pay14 (kernelRun0_A.sl.r_18 c arg3 harg3 x1)⟩] := by
  sl_kernel_rfl

end

end Cert.Quant

end
-- ==== Proof.BridgeB.lean ====
/- The stores of a grid point after the first, named by the blocks. -/
module

public import proofs.«01_k».proof.Proof.BridgeA

@[expose] public section

set_option maxRecDepth 100000

noncomputable section

namespace Cert.Quant

open Cert.KernelIdeal Cert.KernelIdeal.Gen Idealize.ShloMosaic Idealize.ShloMosaic.TcCoe Idealize.SL.Sem

variable {F : FTy → Type} [FloatOps F]

section
variable  (c : Dev nD) (i : grid0.Coords) (arg2 : Memref sig .tc .smem S16 .f32) (harg2 : arg2.IsWhole) (arg3 : Memref sig .tc .smem S1 .f32) (harg3 : arg3.IsWhole) (arg4 : Memref sig .tc .vmem S1x640x512 .bf16) (harg4 : arg4.IsWhole) (arg5 : Memref sig .tc .vmem S1x512x640 .i8) (harg5 : arg5.IsWhole) (arg6 : Memref sig .tc .vmem S1x40x512 .f32) (harg6 : arg6.IsWhole) (arg7 : Memref sig .tc .vmem S1x320x512 .i8) (harg7 : arg7.IsWhole) (arg8 : Memref sig .tc .vmem S1x40x512 .fp8e4m3) (harg8 : arg8.IsWhole) (arg9 : Memref sig .tc .vmem S8x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S80x128 .i32) (harg12 : arg12.IsWhole) (hc0 : ¬cond0_0 i) (x0 : Vec F S16 .f32) (x1 : Vec F S1 .f32) (x2 : Vec F S1x640x512 .bf16) (x3 : Vec F S1x512x640 .i8) (xs0 : Vec F S128x128 .bf16) (xs1 : Vec F S128x128 .bf16)

theorem amax_B : (kernelRun0_B c i arg2 harg2 arg3 harg3 arg4 harg4 arg5 harg5 arg6 harg6 arg7 harg7 arg8 harg8 arg9 harg9 arg10 harg10 arg11 harg11 arg12 harg12 hc0 x0 x1 x2 x3 xs0 xs1).1 = blks.map (amaxPiece (View.readAt (Elt F) arg10.view (Rect.unit ![0, 0] S128x128.size inb_S128x128_S128x128_0_0).toLoadRect (harg10.unread xs0)) (loadX arg4 harg4 x2)) := by
  sl_kernel_rfl

theorem codes_B : (kernelRun0_B c i arg2 harg2 arg3 harg3 arg4 harg4 arg5 harg5 arg6 harg6 arg7 harg7 arg8 harg8 arg9 harg9 arg10 harg10 arg11 harg11 arg12 harg12 hc0 x0 x1 x2 x3 xs0 xs1).2.1 = codePieces (View.readAt (Elt F) arg10.view (Rect.unit ![0, 0] S128x128.size inb_S128x128_S128x128_0_0).toLoadRect (harg10.unread xs0)) (View.readAt (Elt F) arg11.view (Rect.unit ![0, 0] S128x128.size inb_S128x128_S128x128_0_0).toLoadRect (harg11.unread xs1)) (loadX arg4 harg4 x2) (loadY arg5 harg5 x3) (kernelRun0_B.sl.r c arg3 harg3 x1) arg12.view blks := by
  sl_kernel_rfl

theorem sb_B : (kernelRun0_B c i arg2 harg2 arg3 harg3 arg4 harg4 arg5 harg5 arg6 harg6 arg7 harg7 arg8 harg8 arg9 harg9 arg10 harg10 arg11 harg11 arg12 harg12 hc0 x0 x1 x2 x3 xs0 xs1).2.2.1 = [3,2,1,0].map (sbPiece (View.readAt (Elt F) arg10.view (Rect.unit ![0, 0] S128x128.size inb_S128x128_S128x128_0_0).toLoadRect (harg10.unread xs0)) (loadX arg4 harg4 x2) (kernelRun0_B.sl.r c arg3 harg3 x1)) := by
  sl_kernel_rfl

theorem ts_B : (kernelRun0_B c i arg2 harg2 arg3 harg3 arg4 harg4 arg5 harg5 arg6 harg6 arg7 harg7 arg8 harg8 arg9 harg9 arg10 harg10 arg11 harg11 arg12 harg12 hc0 x0 x1 x2 x3 xs0 xs1).2.2.2.1 = [⟨Rect.unit ![0, 0] S8x128.size inb_S8x128_S8x128_0_0, k0_pay14 (kernelRun0_B.sl.r c arg3 harg3 x1)⟩] := by
  sl_kernel_rfl

end

end Cert.Quant

end
-- ==== Proof.DotV.lean ====
module

public import proofs.«01_k».proof.Proof.BridgeB
public import Idealize.ShloMosaic.Lib.Pointwise
public import Idealize.ShloMosaic.PureOps.Ideal

@[expose] public section

noncomputable section

namespace Cert.Quant

open Cert.KernelIdeal Cert.KernelIdeal.Gen Idealize.ShloMosaic Idealize.ShloMosaic.TcCoe Idealize.SL.Sem

/-- A block product at an index: the sum over the 128 rows. -/
theorem pay16_apply (R : Vec Ideal S128x128 .bf16) (X : Vec Ideal S1x128x256 .bf16) (j : S128x256.Idx) :
    k0_pay16 (F := Ideal) R X j = ∑ k : Fin 128, R (ix2 (j 0) k) * X (ix3 0 k (j 1)) := by
  unfold k0_pay16
  pointwise

theorem pay17_apply (Y : Vec Ideal S1x256x128 .i8) (P : Vec Ideal S128x128 .bf16) (j : S128x256.Idx) :
    k0_pay17 (F := Ideal) Y P j = ∑ k : Fin 128, P (ix2 (j 0) k) * (((Y (ix3 0 (j 1) k) : BitVec 8).toNat : ℝ) : EReal) := by
  unfold k0_pay17
  pointwise
  rfl

theorem tileW_apply {F : FTy → Type} [FloatOps F] (W : FVec F S128x256 .f32) (h : Fin 2) (i : Fin 16) (j : S8x128.Idx) :
    tileW W h i j = W (ix2 ⟨8 * i.val + (j 0).val, by have := (j 0).isLt; have : (j 0).val < 8 := this; omega⟩ ⟨128 * h.val + (j 1).val, by have : (j 1).val < 128 := (j 1).isLt; omega⟩) := by
  unfold tileW
  pointwise
end Cert.Quant
end
-- ==== Proof.RotV.lean ====
module

public import proofs.«01_k».proof.Proof.DotV
public import Idealize.ShloMosaic.Lib.VecWindow

@[expose] public section

noncomputable section

namespace Cert.Quant

open Cert.KernelIdeal Cert.KernelIdeal.Gen Idealize.ShloMosaic Idealize.ShloMosaic.TcCoe Idealize.SL.Sem

section
variable {F : FTy → Type} [FloatOps F]

/-- The sign of a lane, picked by comparing the lane's place in its group with each key. -/
def chainV : List (BitVec 32 × Elt F .f32) → FVec F S128x128 .f32
  | [] => broadcast S128x128 (Scalar.ofBits .f32 0x00000000#32 : F .f32)
  | (n, s) :: l => select (cmpi .eq k0_pay4 (broadcast S128x128 n)) (broadcast S128x128 s) (chainV l)

/-- The sixteen keys with their signs, the last key first. -/
def keys (sg : Fin 16 → Elt F .f32) : List (BitVec 32 × Elt F .f32) :=
  [(15#32, sg 15), (14#32, sg 14), (13#32, sg 13), (12#32, sg 12), (11#32, sg 11), (10#32, sg 10), (9#32, sg 9), (8#32, sg 8),
    (7#32, sg 7), (6#32, sg 6), (5#32, sg 5), (4#32, sg 4), (3#32, sg 3), (2#32, sg 2), (1#32, sg 1), (0#32, sg 0)]

/-- The block-diagonal rotation. -/
def rotV (sg : Fin 16 → Elt F .f32) : FVec F S128x128 .bf16 :=
  shapeCast S128x128 (truncf .bf16 (select k0_pay5 (mulf (mulf (broadcast S128x128 (Scalar.ofBits .f32 0x3E800000#32 : F .f32)) k0_pay6) (chainV (keys sg)))
    (broadcast S128x128 (Scalar.ofBits .f32 0x00000000#32 : F .f32))) bitsLt_bf16_f32) shapeCasts_S128x128_S128x128

theorem inb_sg (k : Fin 16) : ∀ a, (![k.val] : Fin 1 → ℕ) a + S1.size a ≤ S16.size a := by revert k; decide

theorem pos_S1 : 0 < S1.numel := by rw [numel1_S1]; decide

def loadS (arg2 : Memref sig .tc .smem S16 .f32) (harg2 : arg2.IsWhole) (x0 : Vec F S16 .f32) (k : Fin 16) : Elt F .f32 :=
  View.readAt (Elt F) arg2.view (Rect.unit (s := S16) ![k.val] S1.size (inb_sg k)).toLoadRect (harg2.unread x0) (Shape.Idx.first pos_S1)

theorem hs0 (c : Dev nD) (arg2 : Memref sig .tc .smem S16 .f32) (harg2 : arg2.IsWhole) (x0 : Vec F S16 .f32) :
    kernelRun0_A.sl.HS0_1 c arg2 harg2 x0 = [⟨Rect.unit ![0, 0] S128x128.size inb_S128x128_S128x128_0_0, rotV (loadS arg2 harg2 x0)⟩] := by
  sl_kernel_rfl

theorem v16_eq (c : Dev nD) (arg2 : Memref sig .tc .smem S16 .f32) (harg2 : arg2.IsWhole) (arg10 : Memref sig .tc .vmem S128x128 .bf16) (x0 : Vec F S16 .f32) :
    kernelRun0_A.sl.v16 c arg2 harg2 arg10 x0 = rotV (loadS arg2 harg2 x0) := by
  unfold kernelRun0_A.sl.v16
  rw [hs0]
  exact View.readCov_full _ _ _ _ _

theorem v23_eq (c : Dev nD) (arg11 : Memref sig .tc .vmem S128x128 .bf16) :
    kernelRun0_A.sl.v23 (F := F) c arg11 = k0_pay13 k0_pay3 k0_pay4 k0_pay5 := by
  unfold kernelRun0_A.sl.v23 kernelRun0_A.sl.HS1_1
  exact View.readCov_full _ _ _ _ _

theorem loadS_eq (arg2 : Memref sig .tc .smem S16 .f32) (harg2 : arg2.IsWhole) (x0 : Vec F S16 .f32) (k : Fin 16) :
    loadS arg2 harg2 x0 k = x0 (ix1 k) := by
  unfold loadS
  rw [View.readAt_eq_ld, harg2.read_unread]
  pointwise
end

theorem pay3_apply (j : S128x128.Idx) : k0_pay3 j = BitVec.ofNat 32 ((j 0).val / 8) := by
  unfold k0_pay3
  pointwise
  have h : ∀ r : Fin 128, IntOp.shrui ArithUnit.vector (BitVec.ofNat 32 r.val) 3#32 = BitVec.ofNat 32 (r.val / 8) := by decide +kernel
  exact h (j 0)
theorem pay4_apply (j : S128x128.Idx) : k0_pay4 j = BitVec.ofNat 32 ((j 1).val % 16) := by
  unfold k0_pay4
  pointwise
  have h : ∀ r : Fin 128, IntOp.andi (BitVec.ofNat 32 r.val) 15#32 = BitVec.ofNat 32 (r.val % 16) := by decide +kernel
  exact h (j 1)
theorem pay5_apply (j : S128x128.Idx) : k0_pay5 j = if (j 1).val / 16 = (j 0).val % 8 then 1#1 else 0#1 := by
  unfold k0_pay5
  pointwise
  have h : ∀ r : Fin 128, IntOp.shrui ArithUnit.vector (BitVec.ofNat 32 r.val) 4#32 = BitVec.ofNat 32 (r.val / 16) := by decide +kernel
  have h' : ∀ r : Fin 128, IntOp.andi (BitVec.ofNat 32 r.val) 7#32 = BitVec.ofNat 32 (r.val % 8) := by decide +kernel
  have h'' : ∀ a b : Fin 8, IntOp.cmpi .eq (BitVec.ofNat 32 a.val) (BitVec.ofNat 32 b.val) = if a.val = b.val then 1#1 else 0#1 := by decide +kernel
  rw [h (j 1), h' (j 0)]
  exact h'' ⟨(j 1).val / 16, by have : (j 1).val < 128 := (j 1).isLt; omega⟩ ⟨(j 0).val % 8, by omega⟩

/-- The bit of the Hadamard matrix at two places in the group. -/
def par (a b : ℕ) : BitVec 32 :=
  ((BitVec.ofNat 32 a &&& BitVec.ofNat 32 b &&& 1#32) + ((BitVec.ofNat 32 a &&& BitVec.ofNat 32 b) >>> 1 &&& 1#32)
    + ((BitVec.ofNat 32 a &&& BitVec.ofNat 32 b) >>> 2 &&& 1#32) + ((BitVec.ofNat 32 a &&& BitVec.ofNat 32 b) >>> 3 &&& 1#32)) &&& 1#32

/-- The Hadamard entry. -/
def hadE (a b : ℕ) : EReal := 1 - Ideal.ofBits .f32 0x40000000#32 * (((par a b).toInt : ℝ) : EReal)

/-- The rotation's entry: a quarter of the Hadamard entry, with the lane's sign. -/
def rotE (sg : Fin 16 → EReal) (a : ℕ) (b : Fin 16) : EReal :=
  Ideal.ofBits .f32 0x3E800000#32 * hadE a b.val * sg b

theorem pay6_apply (j : S128x128.Idx) : k0_pay6 (F := Ideal) j = hadE ((j 0).val / 8) ((j 1).val % 16) := by
  unfold k0_pay6
  pointwise
  simp only [pay3_apply, pay4_apply]
  unfold hadE
  have h : ∀ a b : Fin 16, IntOp.andi
        (IntOp.xori
          (IntOp.xori
            (IntOp.xori (IntOp.andi (BitVec.ofNat 32 a.val) (BitVec.ofNat 32 b.val))
              (IntOp.shrui ArithUnit.vector (IntOp.andi (BitVec.ofNat 32 a.val) (BitVec.ofNat 32 b.val)) 1#32))
            (IntOp.shrui ArithUnit.vector (IntOp.andi (BitVec.ofNat 32 a.val) (BitVec.ofNat 32 b.val)) 2#32))
          (IntOp.shrui ArithUnit.vector (IntOp.andi (BitVec.ofNat 32 a.val) (BitVec.ofNat 32 b.val)) 3#32))
        1#32 = par a.val b.val := by decide +kernel
  rw [h ⟨(j 0).val / 8, by have : (j 0).val < 128 := (j 0).isLt; omega⟩ ⟨(j 1).val % 16, by omega⟩]
  rfl
theorem chain_apply (sg : Fin 16 → Elt Ideal .f32) (j : S128x128.Idx) : chainV (keys sg) j = sg ⟨(j 1).val % 16, Nat.mod_lt _ (by decide)⟩ := by
  unfold keys
  simp only [chainV, select, cmpi, pay4_apply, broadcast]
  obtain ⟨b, hb⟩ : ∃ b : Fin 16, b.val = (j 1).val % 16 := ⟨⟨(j 1).val % 16, Nat.mod_lt _ (by decide)⟩, rfl⟩
  have hj : (⟨(j 1).val % 16, Nat.mod_lt _ (by decide)⟩ : Fin 16) = b := Fin.ext hb.symm
  rw [hj, ← hb]
  clear hb hj
  fin_cases b <;> rfl
theorem rotV_apply (sg : Fin 16 → Elt Ideal .f32) (j : S128x128.Idx) :
    rotV sg j = if (j 1).val / 16 = (j 0).val % 8 then rotE sg ((j 0).val / 8) ⟨(j 1).val % 16, Nat.mod_lt _ (by decide)⟩ else (0 : EReal) := by
  unfold rotV
  pointwise
  rw [pay5_apply, pay6_apply, chain_apply]
  unfold rotE
  by_cases h : (j 1).val / 16 = (j 0).val % 8
  · rw [if_pos h, if_pos h]; rfl
  · rw [if_neg h, if_neg h]; rfl
theorem pay13_apply (j : S128x128.Idx) :
    k0_pay13 (F := Ideal) k0_pay3 k0_pay4 k0_pay5 j = if (j 1).val / 16 = (j 0).val % 8 ∧ (j 1).val % 16 = (j 0).val / 8 then FloatOps.ofBits (F := Ideal) .f32 0x1A800000#32 else (0 : EReal) := by
  unfold k0_pay13
  pointwise
  simp only [pay3_apply, pay4_apply, pay5_apply]
  have h' : ∀ a b : Fin 16, IntOp.cmpi .eq (BitVec.ofNat 32 a.val) (BitVec.ofNat 32 b.val) = if a.val = b.val then 1#1 else 0#1 := by decide +kernel
  have e := h' ⟨(j 1).val % 16, by omega⟩ ⟨(j 0).val / 8, by have : (j 0).val < 128 := (j 0).isLt; omega⟩
  simp only at e
  rw [e]
  by_cases h1 : (j 1).val / 16 = (j 0).val % 8 <;> by_cases h2 : (j 1).val % 16 = (j 0).val / 8 <;>
    simp only [h1, h2, if_true, if_false, and_self, and_true, and_false] <;> rfl
end Cert.Quant
end
-- ==== Proof.Elem.lean ====
/- One element of the quantiser over the extended reals: the kernel's code word of a scaled magnitude and a random byte
   (`kcode`), the reference's code (`codeOf`), and their equality (`kcode_div`). -/
module

public import Idealize.ShloMosaic.Lib.IdealHost

@[expose] public section

noncomputable section

namespace Cert.Quant

open Idealize.ShloMosaic

/-- The word of a sum of at least one, as integer arithmetic writes it: above sixteen, the word of sixteen. -/
def kword (b : EReal) : BitVec 32 :=
  Ideal.fptosi 32 (Ideal.liftRound Int.ceil (min b ((16 : ℝ) : EReal) *
      (if min b ((16 : ℝ) : EReal) < ((2 : ℝ) : EReal) then ((8388608 : ℝ) : EReal) else
        if min b ((16 : ℝ) : EReal) < ((4 : ℝ) : EReal) then ((4194304 : ℝ) : EReal) else
        if min b ((16 : ℝ) : EReal) < ((8 : ℝ) : EReal) then ((2097152 : ℝ) : EReal) else ((1048576 : ℝ) : EReal))))
    + (if min b ((16 : ℝ) : EReal) < ((2 : ℝ) : EReal) then 1056964608#32 else
        if min b ((16 : ℝ) : EReal) < ((4 : ℝ) : EReal) then 1065353216#32 else
        if min b ((16 : ℝ) : EReal) < ((8 : ℝ) : EReal) then 1073741824#32 else 1082130432#32)

/-- The word of the noise plus its offset. -/
def nword (n : EReal) : BitVec 32 :=
  Ideal.fptosi 32 ((n + ((8429569 * 2 ^ (-88 : ℤ) : ℝ) : EReal)) * (((2 : ℝ) ^ (88 : ℤ) : ℝ) : EReal)) + 511705088#32

/-- The rounded, clipped code word of a difference of words. -/
def kclip (t : BitVec 32) : BitVec 32 :=
  IntOp.minsi ((t + 32767#32 + ((t >>> 16) &&& 1#32)) >>> 16) 8767#32

/-- The kernel's code word of the scaled magnitude `p` under the noise `n`. -/
def kcode (p n : EReal) : BitVec 32 := kclip (kword (p + max p ((1 : ℝ) : EReal)) - nword n)

/-- One if the fractional part of `z`, of 256, exceeds `N` and a half. -/
def upOf (z : ℝ) (N : ℕ) : ℕ := if (N : ℝ) + 1 / 2 < (z - ⌊z⌋₊) * 256 then 1 else 0

/-- The reference's code of a magnitude of `[0, 6]` under the random byte `N`. -/
def codeR (a : ℝ) (N : ℕ) : ℕ :=
  if a < 2 then ⌊2 * a⌋₊ + upOf (2 * a) N else if a < 4 then 2 + (⌊a⌋₊ + upOf a N) else 4 + (⌊a / 2⌋₊ + upOf (a / 2) N)

theorem fptosi_nat (n : ℕ) (h : n < 2 ^ 31) : Ideal.fptosi 32 (((n : ℝ) : ℝ) : EReal) = BitVec.ofNat 32 n := by
  rw [Ideal.fptosi, Ideal.toIntClamped_coe, if_pos (by positivity), Int.floor_natCast]
  have : max (-((2 ^ (32 - 1) : ℕ) : ℤ)) (min (((2 ^ (32 - 1) : ℕ) : ℤ) - 1) (n : ℤ)) = (n : ℤ) := by
    norm_num; omega
  rw [this]; rfl

theorem nword_eq (N : ℕ) (h : N < 256) :
    nword (((N : ℝ) * 2 ^ (-74 : ℤ) : ℝ) : EReal) = BitVec.ofNat 32 (8429569 + 16384 * N + 511705088) := by
  have e : ((((N : ℝ) * 2 ^ (-74 : ℤ) : ℝ) : EReal) + ((8429569 * 2 ^ (-88 : ℤ) : ℝ) : EReal)) *
      (((2 : ℝ) ^ (88 : ℤ) : ℝ) : EReal) = (((8429569 + 16384 * N : ℕ) : ℝ) : EReal) := by
    rw [← EReal.coe_add, ← EReal.coe_mul]; congr 1; push_cast; norm_num; ring
  rw [nword, e, fptosi_nat _ (by omega)]
  rw [← BitVec.ofNat_add]

theorem kclip_div (T : ℕ) (h : T < 2 ^ 31 - 2 ^ 16) :
    (kclip (BitVec.ofNat 32 T)).toNat / 64 = min ((T + 32767 + (T / 65536) % 2) / 65536 / 64) 136
      ∧ (kclip (BitVec.ofNat 32 T)).toNat < 65536 := by
  have h1 : (((BitVec.ofNat 32 T + 32767#32 + ((BitVec.ofNat 32 T >>> 16) &&& 1#32)) >>> 16)).toNat
      = (T + 32767 + (T / 65536) % 2) / 65536 := by
    have ha : ((BitVec.ofNat 32 T >>> 16) &&& 1#32).toNat = (T / 65536) % 2 := by
      rw [BitVec.toNat_and, BitVec.toNat_ushiftRight, BitVec.toNat_ofNat, Nat.shiftRight_eq_div_pow]
      rw [show (1#32).toNat = 1 from rfl, Nat.and_one_is_mod, Nat.mod_eq_of_lt (show T < 2 ^ 32 by omega)]
    rw [BitVec.toNat_ushiftRight, BitVec.toNat_add, ha, BitVec.toNat_add, BitVec.toNat_ofNat, Nat.shiftRight_eq_div_pow]
    rw [show (32767#32).toNat = 32767 from rfl]
    omega
  rw [kclip, IntOp.minsi]
  generalize ((BitVec.ofNat 32 T + 32767#32 + ((BitVec.ofNat 32 T >>> 16) &&& 1#32)) >>> 16) = r at h1
  have hs : r.slt 8767#32 = decide (r.toNat < 8767) := by
    rw [BitVec.slt_eq_decide, BitVec.toInt_eq_toNat_cond, if_pos (by rw [h1]; omega)]
    rw [show (8767#32).toInt = 8767 from by decide]
    simp
  rw [hs]
  by_cases hr : r.toNat < 8767
  · rw [if_pos (by simpa using hr)]; omega
  · rw [if_neg (by simpa using hr)]
    have : (8767#32).toNat = 8767 := rfl
    omega

theorem round_nat (T : ℕ) : (T + 32767 + (T / 65536) % 2) / 65536 / 64 = (T + 32768) / 4194304 := by
  obtain ⟨q, r, hr, rfl⟩ : ∃ q r, r < 65536 ∧ T = q * 65536 + r := ⟨T / 65536, T % 65536, Nat.mod_lt _ (by omega), by omega⟩
  have h1 : (q * 65536 + r) / 65536 = q := by omega
  rw [h1, Nat.div_div_eq_div_mul]
  obtain ⟨u, v, hv, rfl⟩ : ∃ u v, v < 64 ∧ q = u * 64 + v := ⟨q / 64, q % 64, Nat.mod_lt _ (by omega), by omega⟩
  have e : (u * 64 + v) % 2 = v % 2 := by omega
  rw [e]
  have e1 : (u * 64 + v) * 65536 + r + 32767 + v % 2 = (v * 65536 + r + 32767 + v % 2) + u * 4194304 := by ring
  have e2 : (u * 64 + v) * 65536 + r + 32768 = (v * 65536 + r + 32768) + u * 4194304 := by ring
  rw [e1, e2, Nat.add_mul_div_right _ _ (by norm_num)]
  rw [Nat.add_mul_div_right _ _ (by norm_num)]
  suffices hs : (v * 65536 + r + 32767 + v % 2) / 4194304 = (v * 65536 + r + 32768) / 4194304 from congrArg (· + u) hs
  clear e1 e2 e h1
  by_cases hv63 : v * 65536 + r + 32768 < 4194304
  · have a3 : v * 65536 + r + 32767 + v % 2 < 4194304 := by
      have hv2 : v % 2 ≤ 1 := by omega
      exact lt_of_le_of_lt (Nat.add_le_add_left hv2 _) hv63
    rw [Nat.div_eq_of_lt hv63, Nat.div_eq_of_lt a3]
  · have h63 : v = 63 := by omega
    subst h63
    have a1 : (63 * 65536 + r + 32767 + 63 % 2) / 4194304 = 1 := by apply Nat.div_eq_of_lt_le <;> omega
    have a2 : (63 * 65536 + r + 32768) / 4194304 = 1 := by apply Nat.div_eq_of_lt_le <;> omega
    exact a1.trans a2.symm

theorem core_nat (f c off N : ℕ) (hN : N < 256) (hfl : f * 4194304 ≤ c) (hfu : c ≤ (f + 1) * 4194304) :
    (545251327 + (off * 4194304 + c) - 16384 * N) / 4194304 = 129 + (off + (f + if f * 4194304 + (16384 * N + 8192) < c then 1 else 0)) := by
  obtain ⟨d, rfl⟩ := Nat.exists_eq_add_of_le hfl
  obtain ⟨M, hM⟩ : ∃ M, M + 16384 * N = 545251327 := ⟨545251327 - 16384 * N, by omega⟩
  have e : 545251327 + (off * 4194304 + (f * 4194304 + d)) - 16384 * N = (M + d) + (off + f) * 4194304 := by
    rw [← hM]; clear hM; omega
  rw [e, Nat.add_mul_div_right _ _ (by norm_num)]
  have hd : d ≤ 4194304 := by clear e hM; omega
  clear e hfl hfu
  have hc : (f * 4194304 + (16384 * N + 8192) < f * 4194304 + d) ↔ 16384 * N + 8192 < d := by clear hM; omega
  simp only [hc]
  clear hc
  by_cases h : 16384 * N + 8192 < d
  · rw [if_pos h]
    have : (M + d) / 4194304 = 130 := by
      apply Nat.div_eq_of_lt_le <;> omega
    rw [this]; clear this hM; omega
  · rw [if_neg h]
    have : (M + d) / 4194304 = 129 := by
      apply Nat.div_eq_of_lt_le <;> omega
    rw [this]; clear this hM; omega

/-- The rounded difference of the words, at a place `z` of the code ladder that starts at code `off`. -/
theorem ladder (z : ℝ) (hz : 0 ≤ z) (off N : ℕ) (hN : N < 256) (hoff : off ≤ 4) (hz4 : z ≤ 4) (C : ℕ)
    (hC : C = off * 4194304 + ⌈z * 4194304⌉₊) :
    (kclip (BitVec.ofNat 32 (1065353216 + C) - BitVec.ofNat 32 (8429569 + 16384 * N + 511705088))).toNat / 64
        = 129 + min (off + (⌊z⌋₊ + upOf z N)) 7
      ∧ (kclip (BitVec.ofNat 32 (1065353216 + C) - BitVec.ofNat 32 (8429569 + 16384 * N + 511705088))).toNat < 65536 := by
  have hc4 : ⌈z * 4194304⌉₊ ≤ 16777216 := by
    apply Nat.ceil_le.mpr; push_cast; linarith
  have hsub : BitVec.ofNat 32 (1065353216 + C) - BitVec.ofNat 32 (8429569 + 16384 * N + 511705088)
      = BitVec.ofNat 32 (1065353216 + C - (8429569 + 16384 * N + 511705088)) := by
    apply BitVec.eq_of_toNat_eq
    rw [BitVec.toNat_sub, BitVec.toNat_ofNat, BitVec.toNat_ofNat, BitVec.toNat_ofNat]
    omega
  rw [hsub]
  obtain ⟨h1, h2⟩ := kclip_div (1065353216 + C - (8429569 + 16384 * N + 511705088)) (by omega)
  refine ⟨?_, h2⟩
  rw [h1, round_nat]
  have hf : (⌊z⌋₊ : ℝ) ≤ z := Nat.floor_le hz
  have hf1 : z < ⌊z⌋₊ + 1 := Nat.lt_floor_add_one z
  have hfl : ⌊z⌋₊ * 4194304 ≤ ⌈z * 4194304⌉₊ := by
    have : ((⌊z⌋₊ * 4194304 : ℕ) : ℝ) ≤ z * 4194304 := by push_cast; nlinarith
    exact_mod_cast this.trans (Nat.le_ceil _)
  have hfu : ⌈z * 4194304⌉₊ ≤ (⌊z⌋₊ + 1) * 4194304 := by
    apply Nat.ceil_le.mpr; push_cast; nlinarith
  have hup : upOf z N = if ⌊z⌋₊ * 4194304 + (16384 * N + 8192) < ⌈z * 4194304⌉₊ then 1 else 0 := by
    unfold upOf
    have : ((N : ℝ) + 1 / 2 < (z - ⌊z⌋₊) * 256) ↔ ⌊z⌋₊ * 4194304 + (16384 * N + 8192) < ⌈z * 4194304⌉₊ := by
      rw [Nat.lt_ceil]; push_cast
      constructor <;> intro h <;> linarith
    simp only [this]
  have e : 1065353216 + C - (8429569 + 16384 * N + 511705088) + 32768 = 545251327 + (off * 4194304 + ⌈z * 4194304⌉₊) - 16384 * N := by
    rw [hC]; omega
  rw [e, core_nat _ _ _ _ hN hfl hfu, ← hup]
  omega

/-- The code word at a known place `z` of the ladder. -/
theorem kcode_of (p : EReal) (N off : ℕ) (z : ℝ) (hz : 0 ≤ z) (hN : N < 256) (hoff : off ≤ 4) (hz4 : z ≤ 4)
    (hw : kword (p + max p ((1 : ℝ) : EReal)) = BitVec.ofNat 32 (1065353216 + (off * 4194304 + ⌈z * 4194304⌉₊))) :
    (kcode p (((N : ℝ) * 2 ^ (-74 : ℤ) : ℝ) : EReal)).toNat / 64 = 129 + min (off + (⌊z⌋₊ + upOf z N)) 7
      ∧ (kcode p (((N : ℝ) * 2 ^ (-74 : ℤ) : ℝ) : EReal)).toNat < 65536 := by
  rw [kcode, hw, nword_eq N hN]
  exact ladder z hz off N hN hoff hz4 _ rfl

/-- A ceiling scaled, as a word. -/
theorem fptosi_ceil (v : ℝ) (h0 : 0 ≤ v) (h : v ≤ 16777216) :
    Ideal.fptosi 32 (Ideal.liftRound Int.ceil ((v : ℝ) : EReal)) = BitVec.ofNat 32 ⌈v⌉₊ := by
  have hc : ⌈v⌉₊ ≤ 16777216 := Nat.ceil_le.mpr (by exact_mod_cast h)
  rw [Ideal.liftRound_coe, show ((⌈v⌉ : ℤ) : ℝ) = ((⌈v⌉₊ : ℕ) : ℝ) from by rw [← Int.natCast_ceil_eq_ceil h0]; norm_cast]
  exact fptosi_nat _ (lt_of_le_of_lt hc (by norm_num))

theorem kword_top (b : EReal) (hb : ((16 : ℝ) : EReal) ≤ b) : kword b = BitVec.ofNat 32 (1065353216 + (4 * 4194304 + ⌈(4 : ℝ) * 4194304⌉₊)) := by
  have e : min b ((16 : ℝ) : EReal) = ((16 : ℝ) : EReal) := min_eq_right hb
  rw [kword, e]
  simp only [EReal.coe_lt_coe_iff]
  rw [if_neg (by norm_num), if_neg (by norm_num), if_neg (by norm_num), if_neg (by norm_num), if_neg (by norm_num), if_neg (by norm_num),
    ← EReal.coe_mul, fptosi_ceil _ (by norm_num) (by norm_num)]
  rw [show ⌈(4 : ℝ) * 4194304⌉₊ = 16777216 from by rw [show (4 : ℝ) * 4194304 = ((16777216 : ℕ) : ℝ) by norm_num, Nat.ceil_natCast],
    show ⌈(16 : ℝ) * 1048576⌉₊ = 16777216 from by rw [show (16 : ℝ) * 1048576 = ((16777216 : ℕ) : ℝ) by norm_num, Nat.ceil_natCast]]
  rfl

theorem word_sum (t a k d o e : ℕ) (h : a + k = d) (ho : o * e = 0) : BitVec.ofNat 32 (t + a) + BitVec.ofNat 32 k = BitVec.ofNat 32 (d + (o * e + t)) := by
  rw [← BitVec.ofNat_add, ho]; congr 1; omega
theorem word_sum0 (t k d o e : ℕ) (h : d + o * e = k) : BitVec.ofNat 32 t + BitVec.ofNat 32 k = BitVec.ofNat 32 (d + (o * e + t)) := by
  rw [← BitVec.ofNat_add, ← h]; congr 1; omega

theorem kword_real (b : ℝ) (z : ℝ) (off : ℕ) (hb1 : 1 ≤ b) (hb : b < 16)
    (h : (b < 2 ∧ off = 0 ∧ z = 2 * (b - 1)) ∨ (2 ≤ b ∧ b < 4 ∧ off = 0 ∧ z = b) ∨ (4 ≤ b ∧ b < 8 ∧ off = 2 ∧ z = b / 2) ∨ (8 ≤ b ∧ off = 4 ∧ z = b / 4)) :
    kword (b : EReal) = BitVec.ofNat 32 (1065353216 + (off * 4194304 + ⌈z * 4194304⌉₊)) := by
  have e : min (b : EReal) ((16 : ℝ) : EReal) = (b : EReal) := min_eq_left (by exact_mod_cast hb.le)
  rw [kword, e]
  simp only [EReal.coe_lt_coe_iff]
  rcases h with ⟨h1, rfl, rfl⟩ | ⟨h1, h2, rfl, rfl⟩ | ⟨h1, h2, rfl, rfl⟩ | ⟨h1, rfl, rfl⟩
  · rw [if_pos h1, if_pos h1, ← EReal.coe_mul, fptosi_ceil _ (by linarith) (by linarith)]
    rw [show b * 8388608 = 2 * (b - 1) * 4194304 + ((8388608 : ℕ) : ℝ) by push_cast; ring, Nat.ceil_add_natCast (by nlinarith)]
    exact word_sum _ _ _ _ _ _ (by norm_num) (by norm_num)
  · rw [if_neg (by linarith), if_pos h2, if_neg (by linarith), if_pos h2, ← EReal.coe_mul, fptosi_ceil _ (by linarith) (by linarith)]
    exact word_sum0 _ _ _ _ _ (by norm_num)
  · rw [if_neg (by linarith), if_neg (by linarith), if_pos h2, if_neg (by linarith), if_neg (by linarith), if_pos h2, ← EReal.coe_mul, fptosi_ceil _ (by linarith) (by linarith)]
    rw [show b * 2097152 = b / 2 * 4194304 by ring]
    exact word_sum0 _ _ _ _ _ (by norm_num)
  · rw [if_neg (by linarith), if_neg (by linarith), if_neg (by linarith), if_neg (by linarith), if_neg (by linarith), if_neg (by linarith), ← EReal.coe_mul, fptosi_ceil _ (by linarith) (by linarith)]
    rw [show b * 1048576 = b / 4 * 4194304 by ring]
    exact word_sum0 _ _ _ _ _ (by norm_num)

theorem upOf_le (z : ℝ) (N : ℕ) : upOf z N ≤ 1 := by unfold upOf; split_ifs <;> omega
theorem upOf_nat (n N : ℕ) : upOf ((n : ℕ) : ℝ) N = 0 := by
  unfold upOf; rw [Nat.floor_natCast, if_neg]; rw [sub_self, zero_mul]; push Not; positivity

theorem codeR_six (N : ℕ) : codeR 6 N = 7 := by
  unfold codeR
  rw [if_neg (by norm_num), if_neg (by norm_num), show (6 : ℝ) / 2 = ((3 : ℕ) : ℝ) by norm_num, upOf_nat, Nat.floor_natCast]

theorem codeR_le (a : ℝ) (h0 : 0 ≤ a) (h6 : a ≤ 6) (N : ℕ) : codeR a N ≤ 7 := by
  rcases h6.lt_or_eq with h | h
  · unfold codeR
    split_ifs with h1 h2
    · have : ⌊2 * a⌋₊ < 4 := (Nat.floor_lt (by linarith)).mpr (by push_cast; linarith)
      have := upOf_le (2 * a) N; omega
    · have : ⌊a⌋₊ < 4 := (Nat.floor_lt (by linarith)).mpr (by push_cast; linarith)
      have := upOf_le a N; omega
    · have : ⌊a / 2⌋₊ < 3 := (Nat.floor_lt (by linarith)).mpr (by push_cast; linarith)
      have := upOf_le (a / 2) N; omega
  · rw [h, codeR_six]

/-- The kernel's code word holds the reference's code of the magnitude cut at six. -/
theorem kcode_div (p : EReal) (hp : 0 ≤ p) (N : ℕ) (hN : N < 256) :
    (kcode p (((N : ℝ) * 2 ^ (-74 : ℤ) : ℝ) : EReal)).toNat / 64 = 129 + codeR (min p ((6 : ℝ) : EReal)).toReal N
      ∧ (kcode p (((N : ℝ) * 2 ^ (-74 : ℤ) : ℝ) : EReal)).toNat < 65536 := by
  have big : ∀ q : EReal, ((16 : ℝ) : EReal) ≤ q + max q ((1 : ℝ) : EReal) → min q ((6 : ℝ) : EReal) = ((6 : ℝ) : EReal) →
      (kcode q (((N : ℝ) * 2 ^ (-74 : ℤ) : ℝ) : EReal)).toNat / 64 = 129 + codeR (min q ((6 : ℝ) : EReal)).toReal N
      ∧ (kcode q (((N : ℝ) * 2 ^ (-74 : ℤ) : ℝ) : EReal)).toNat < 65536 := by
    intro q hq h6
    have := kcode_of q N 4 4 (by norm_num) hN (by norm_num) (by norm_num) (kword_top _ hq)
    rw [h6, EReal.toReal_coe, codeR_six]
    refine ⟨this.1.trans ?_, this.2⟩
    have : 4 ≤ ⌊(4 : ℝ)⌋₊ := Nat.le_floor (by norm_num)
    omega
  induction p with
  | bot => simp at hp
  | top => exact big ⊤ (by simp) (by simp)
  | coe p =>
    have hp0 : 0 ≤ p := by exact_mod_cast hp
    by_cases h8 : 8 ≤ p
    · apply big
      · rw [max_eq_left (by exact_mod_cast (by linarith : (1 : ℝ) ≤ p)), ← EReal.coe_add]
        exact_mod_cast (by linarith : (16 : ℝ) ≤ p + p)
      · exact min_eq_right (by exact_mod_cast (by linarith : (6 : ℝ) ≤ p))
    push Not at h8
    have hs : (p : EReal) + max (p : EReal) ((1 : ℝ) : EReal) = ((p + max p 1 : ℝ) : EReal) := by
      rw [EReal.coe_add, EReal.coe_strictMono.monotone.map_max]
    have hm : (min (p : EReal) ((6 : ℝ) : EReal)).toReal = min p 6 := by
      rw [← EReal.coe_strictMono.monotone.map_min, EReal.toReal_coe]
    rw [hm]
    have go : ∀ (off : ℕ) (z : ℝ), 0 ≤ z → off ≤ 4 → z ≤ 4 → kword ((p + max p 1 : ℝ) : EReal) = BitVec.ofNat 32 (1065353216 + (off * 4194304 + ⌈z * 4194304⌉₊)) →
        min (off + (⌊z⌋₊ + upOf z N)) 7 = codeR (min p 6) N →
        (kcode p (((N : ℝ) * 2 ^ (-74 : ℤ) : ℝ) : EReal)).toNat / 64 = 129 + codeR (min p 6) N
        ∧ (kcode p (((N : ℝ) * 2 ^ (-74 : ℤ) : ℝ) : EReal)).toNat < 65536 := by
      intro off z h0 ho h4 hw hc
      have := kcode_of p N off z h0 hN ho h4 (by rw [hs]; exact hw)
      rw [← hc]; exact this
    by_cases h6 : p ≤ 6
    · have hle := codeR_le p hp0 h6 N
      rw [min_eq_left h6] at go ⊢
      by_cases h1 : p < 1
      · refine go 0 (2 * p) (by linarith) (by norm_num) (by linarith) (kword_real _ _ _ ?_ ?_ (Or.inl ⟨?_, rfl, ?_⟩)) ?_
        · rw [max_eq_right h1.le]; linarith
        · rw [max_eq_right h1.le]; linarith
        · rw [max_eq_right h1.le]; linarith
        · rw [max_eq_right h1.le]; ring
        · rw [min_eq_left]
          · unfold codeR; rw [if_pos (by linarith)]; omega
          · unfold codeR at hle; rw [if_pos (by linarith)] at hle; omega
      push Not at h1
      have hmx : p + max p 1 = 2 * p := by rw [max_eq_left h1]; ring
      rw [hmx] at go
      by_cases h2 : p < 2
      · refine go 0 (2 * p) (by linarith) (by norm_num) (by linarith) (kword_real _ _ _ (by linarith) (by linarith) (Or.inr (Or.inl ⟨by linarith, by linarith, rfl, rfl⟩))) ?_
        rw [min_eq_left]
        · unfold codeR; rw [if_pos (by linarith)]; omega
        · unfold codeR at hle; rw [if_pos (by linarith)] at hle; omega
      push Not at h2
      by_cases h4 : p < 4
      · refine go 2 p (by linarith) (by norm_num) (by linarith) (kword_real _ _ _ (by linarith) (by linarith) (Or.inr (Or.inr (Or.inl ⟨by linarith, by linarith, rfl, by ring⟩)))) ?_
        rw [min_eq_left]
        · unfold codeR; rw [if_neg (by linarith), if_pos h4]
        · unfold codeR at hle; rw [if_neg (by linarith), if_pos h4] at hle; omega
      push Not at h4
      refine go 4 (p / 2) (by linarith) (by norm_num) (by linarith) (kword_real _ _ _ (by linarith) (by linarith) (Or.inr (Or.inr (Or.inr ⟨by linarith, rfl, by ring⟩)))) ?_
      rw [min_eq_left]
      · unfold codeR; rw [if_neg (by linarith), if_neg (by linarith)]
      · unfold codeR at hle; rw [if_neg (by linarith), if_neg (by linarith)] at hle; omega
    · push Not at h6
      rw [min_eq_right h6.le] at go ⊢
      have hmx : p + max p 1 = 2 * p := by rw [max_eq_left (by linarith)]; ring
      rw [hmx] at go
      refine go 4 (p / 2) (by linarith) (by norm_num) (by linarith) (kword_real _ _ _ (by linarith) (by linarith) (Or.inr (Or.inr (Or.inr ⟨by linarith, rfl, by ring⟩)))) ?_
      rw [codeR_six]
      have : 3 ≤ ⌊p / 2⌋₊ := Nat.le_floor (by push_cast; linarith)
      omega

end Cert.Quant
end
-- ==== Proof.Consts.lean ====
/- The 32-bit constants of both programs, as real numbers. -/
module

public import Idealize.ShloMosaic.Lib.IdealHost

@[expose] public section

namespace Cert.Quant

open Idealize.ShloMosaic

theorem k_3F000000 : Ideal.ofBits .f32 0x3F000000#32 = ((1/2 : ℝ) : EReal) := by
  simp [Ideal.ofBits, Ideal.ieee, -EReal.coe_mul] <;> norm_num
theorem k_40000000 : Ideal.ofBits .f32 0x40000000#32 = ((2 : ℝ) : EReal) := by
  simp [Ideal.ofBits, Ideal.ieee, -EReal.coe_mul] <;> norm_num
theorem k_40800000 : Ideal.ofBits .f32 0x40800000#32 = ((4 : ℝ) : EReal) := by
  simp [Ideal.ofBits, Ideal.ieee, -EReal.coe_mul] <;> norm_num
theorem k_41000000 : Ideal.ofBits .f32 0x41000000#32 = ((8 : ℝ) : EReal) := by
  simp [Ideal.ofBits, Ideal.ieee, -EReal.coe_mul] <;> norm_num
theorem k_41800000 : Ideal.ofBits .f32 0x41800000#32 = ((16 : ℝ) : EReal) := by
  simp [Ideal.ofBits, Ideal.ieee, -EReal.coe_mul] <;> norm_num
theorem k_40C00000 : Ideal.ofBits .f32 0x40C00000#32 = ((6 : ℝ) : EReal) := by
  simp [Ideal.ofBits, Ideal.ieee, -EReal.coe_mul] <;> norm_num
theorem k_C0C00000 : Ideal.ofBits .f32 0xC0C00000#32 = ((-6 : ℝ) : EReal) := by
  simp [Ideal.ofBits, Ideal.ieee, -EReal.coe_mul] <;> norm_num
theorem k_43800000 : Ideal.ofBits .f32 0x43800000#32 = ((256 : ℝ) : EReal) := by
  simp [Ideal.ofBits, Ideal.ieee, -EReal.coe_mul] <;> norm_num
theorem k_4B000000 : Ideal.ofBits .f32 0x4B000000#32 = ((8388608 : ℝ) : EReal) := by
  simp [Ideal.ofBits, Ideal.ieee, -EReal.coe_mul] <;> norm_num
theorem k_4A800000 : Ideal.ofBits .f32 0x4A800000#32 = ((4194304 : ℝ) : EReal) := by
  simp [Ideal.ofBits, Ideal.ieee, -EReal.coe_mul] <;> norm_num
theorem k_4A000000 : Ideal.ofBits .f32 0x4A000000#32 = ((2097152 : ℝ) : EReal) := by
  simp [Ideal.ofBits, Ideal.ieee, -EReal.coe_mul] <;> norm_num
theorem k_49800000 : Ideal.ofBits .f32 0x49800000#32 = ((1048576 : ℝ) : EReal) := by
  simp [Ideal.ofBits, Ideal.ieee, -EReal.coe_mul] <;> norm_num
theorem k_43E00000 : Ideal.ofBits .f32 0x43E00000#32 = ((448 : ℝ) : EReal) := by
  simp [Ideal.ofBits, Ideal.ieee, -EReal.coe_mul] <;> norm_num
theorem k_1F00A001 : Ideal.ofBits .f32 0x1F00A001#32 = ((8429569 * 2 ^ (-88 : ℤ) : ℝ) : EReal) := by
  simp [Ideal.ofBits, Ideal.ieee, -EReal.coe_mul] <;> norm_num
theorem k_6B800000 : Ideal.ofBits .f32 0x6B800000#32 = ((2 ^ (88 : ℤ) : ℝ) : EReal) := by
  have h : ((2 : ℝ) ^ (88 : ℤ)) = 309485009821345068724781056 := by norm_num
  rw [h]
  simp [Ideal.ofBits, Ideal.ieee, -EReal.coe_mul] <;> norm_num
theorem k_1A800000 : Ideal.ofBits .f32 0x1A800000#32 = ((2 ^ (-74 : ℤ) : ℝ) : EReal) := by
  simp [Ideal.ofBits, Ideal.ieee, -EReal.coe_mul] <;> norm_num
theorem k_45280000 : Ideal.ofBits .f32 0x45280000#32 = ((2688 : ℝ) : EReal) := by
  simp [Ideal.ofBits, Ideal.ieee, -EReal.coe_mul] <;> norm_num
theorem k_3F800000 : Ideal.ofBits .f32 0x3F800000#32 = ((1 : ℝ) : EReal) := by
  simp [Ideal.ofBits, Ideal.ieee, -EReal.coe_mul] <;> norm_num

end Cert.Quant
-- ==== Proof.RefV.lean ====
module

public import proofs.«01_k».proof.Proof.RotV
public import proofs.«01_k».proof.Proof.Elem
public import proofs.«01_k».proof.Proof.Consts
public import proofs.«01_k».proof.Proof.Gen.ReferenceIdeal.Read

@[expose] public section

noncomputable section

namespace Cert.Quant

open Idealize.ShloMosaic Idealize.ShloMosaic.TcCoe Idealize.SL.Sem
open Cert.ReferenceIdeal Cert.ReferenceIdeal.Read

variable (x2 : (⟨S2x18432x640, .i8⟩ : BufTy).Contents (Elt Ideal)) (r1 : (⟨S2x40x18432, .f32⟩ : BufTy).Contents (Elt Ideal))
  (e0 : (⟨S_, .f32⟩ : BufTy).Contents (Elt Ideal)) (e1 : (⟨S2x40x16x18432, .f32⟩ : BufTy).Contents (Elt Ideal)) (i : S2x40x16x18432.Idx)

theorem div_coe (a s : ℝ) (hs : s ≠ 0) : Ideal.div (a : EReal) (s : EReal) = ((a / s : ℝ) : EReal) := by
  rw [Ideal.div, if_neg (by exact_mod_cast hs), ← EReal.coe_inv, ← EReal.coe_mul, div_eq_mul_inv]

theorem sel_lt (x y : ℝ) {α : Type} (u v : α) :
    Scalar.select (FloatOps.cmpf (F := Ideal) (φ := .f32) .olt (x : EReal) (y : EReal)) u v = if x < y then u else v := by
  show (if BitVec.ofBool (decide ((x : EReal) < (y : EReal))) = 1#1 then u else v) = _
  by_cases h : x < y
  · rw [if_pos h, decide_eq_true (by exact_mod_cast h)]; rfl
  · rw [if_neg h, decide_eq_false (by exact_mod_cast h)]; rfl

theorem of_lt (x y : ℝ) : FloatOps.uitofp (F := Ideal) .f32 (FloatOps.cmpf (F := Ideal) (φ := .f32) .olt (x : EReal) (y : EReal)) = ((if x < y then 1 else 0 : ℝ) : EReal) := by
  show ((((BitVec.ofBool (decide ((x : EReal) < (y : EReal)))).toNat : ℝ)) : EReal) = _
  by_cases h : x < y
  · rw [if_pos h, decide_eq_true (by exact_mod_cast h)]; norm_num; rfl
  · rw [if_neg h, decide_eq_false (by exact_mod_cast h)]; norm_num

/-- The step of the code ladder at a magnitude. -/
def stepR (a : ℝ) : ℝ := if a < 2 then 1 / 2 else if a < 4 then 1 else 2

theorem stepR_pos (a : ℝ) : 0 < stepR a := by unfold stepR; split_ifs <;> norm_num

theorem v58_eq (a : ℝ) (ha : val_main_v52 (F := Ideal) r1 e0 e1 i = (a : EReal)) : val_main_v58 (F := Ideal) r1 e0 e1 i = ((stepR a : ℝ) : EReal) := by
  rw [val_main_v58_apply, val_main_call5_v0_apply, val_main_cst_19_apply,val_main_v57_apply, val_main_call4_v1_apply, val_main_call4_v0_apply, val_main_cst_17_apply,val_main_cst_18_apply, val_main_v56_apply, val_main_v55_apply, val_main_cst_16_apply, val_main_v54_apply, val_main_v53_apply, val_main_cst_15_apply, ha]
  rw [show FloatOps.ofBits (F := Ideal) .f32 1073741824#32 = ((2 : ℝ) : EReal) from k_40000000, show FloatOps.ofBits (F := Ideal) .f32 1056964608#32 = ((1 / 2 : ℝ) : EReal) from k_3F000000,
    show FloatOps.ofBits (F := Ideal) .f32 1082130432#32 = ((4 : ℝ) : EReal) from k_40800000, show FloatOps.ofBits (F := Ideal) .f32 1065353216#32 = ((1 : ℝ) : EReal) from k_3F800000]
  rw [sel_lt, sel_lt, stepR]
  split_ifs <;> rfl

theorem v63_eq (a : ℝ) (h0 : 0 ≤ a) (ha : val_main_v52 (F := Ideal) r1 e0 e1 i = (a : EReal)) :
    val_main_v63 (F := Ideal) r1 e0 e1 i = (((⌊a / stepR a⌋₊ : ℝ) * stepR a : ℝ) : EReal) := by
  rw [val_main_v63_apply, val_main_v62_apply, val_main_v61_apply, val_main_v60_apply, val_main_v59_apply, v58_eq _ _ _ _ _ ha, ha]
  show Ideal.liftRound Int.floor (Ideal.div _ _) * _ = _
  rw [div_coe _ _ (stepR_pos a).ne', Ideal.liftRound_coe, ← EReal.coe_mul, ← natCast_floor_eq_intCast_floor (by have := stepR_pos a; positivity)]

theorem v79_eq (a : ℝ) (h0 : 0 ≤ a) (ha : val_main_v52 (F := Ideal) r1 e0 e1 i = (a : EReal)) (N : ℕ) (hN : val_main_v70 (F := Ideal) x2 i = ((N : ℝ) : EReal)) :
    val_main_v79 (F := Ideal) x2 r1 e0 e1 i = (((⌊a / stepR a⌋₊ + upOf (a / stepR a) N : ℝ) * stepR a : ℝ) : EReal) := by
  have hs := stepR_pos a
  rw [val_main_v79_apply, val_main_v78_apply, val_main_v77_apply, val_main_v76_apply, val_main_v75_apply, val_main_v74_apply, val_main_v73_apply, val_main_cst_21_apply, val_main_v72_apply, val_main_v71_apply, val_main_cst_20_apply, val_main_v66_apply, val_main_v65_apply, val_main_v64_apply, v63_eq _ _ _ _ a h0 ha, v58_eq _ _ _ _ _ ha, ha, hN]
  rw [show FloatOps.ofBits (F := Ideal) .f32 1132462080#32 = ((256 : ℝ) : EReal) from k_43800000, show FloatOps.ofBits (F := Ideal) .f32 1056964608#32 = ((1 / 2 : ℝ) : EReal) from k_3F000000]
  have e1' : FloatOps.addf (F := Ideal) (φ := .f32) ((N : ℝ) : EReal) ((1 / 2 : ℝ) : EReal) = ((N + 1 / 2 : ℝ) : EReal) := (EReal.coe_add _ _).symm
  have e2' : FloatOps.mulf (F := Ideal) (φ := .f32) (FloatOps.hostDivf (F := Ideal) (φ := .f32) (FloatOps.subf (F := Ideal) (φ := .f32) (a : EReal) (((⌊a / stepR a⌋₊ : ℝ) * stepR a : ℝ) : EReal)) ((stepR a : ℝ) : EReal)) ((256 : ℝ) : EReal)
      = (((a / stepR a - ⌊a / stepR a⌋₊) * 256 : ℝ) : EReal) := by
    show Ideal.div ((a : EReal) - _) _ * _ = _
    rw [← EReal.coe_sub, div_coe _ _ hs.ne', ← EReal.coe_mul]
    congr 2
    field_simp
  rw [e1', e2', of_lt]
  show ((_ : ℝ) : EReal) + ((_ : ℝ) : EReal) * ((_ : ℝ) : EReal) = _
  rw [← EReal.coe_mul, ← EReal.coe_add]
  congr 1
  unfold upOf
  split_ifs <;> push_cast <;> ring

/-- The reference's code of a magnitude of `[0, 6]`. -/
theorem v94_eq (a : ℝ) (h0 : 0 ≤ a) (h6 : a ≤ 6) (ha : val_main_v52 (F := Ideal) r1 e0 e1 i = (a : EReal)) (N : ℕ) (hN : val_main_v70 (F := Ideal) x2 i = ((N : ℝ) : EReal)) :
    val_main_v94 (F := Ideal) x2 r1 e0 e1 i = BitVec.ofNat 32 (codeR a N) := by
  have hle := codeR_le a h0 h6 N
  rw [val_main_v94_apply, val_main_v93_apply, val_main_v92_apply, val_main_v91_apply, val_main_v90_apply, val_main_cst_27_apply, val_main_v89_apply, val_main_v88_apply, val_main_cst_26_apply, val_main_v87_apply, val_main_v86_apply, val_main_cst_25_apply, val_main_v85_apply, val_main_v84_apply, val_main_cst_24_apply, val_main_v83_apply, val_main_v82_apply, val_main_cst_23_apply, val_main_v81_apply, val_main_v80_apply, val_main_cst_22_apply,
    v79_eq _ _ _ _ _ a h0 ha N hN]
  rw [show FloatOps.ofBits (F := Ideal) .f32 1073741824#32 = ((2 : ℝ) : EReal) from k_40000000, show FloatOps.ofBits (F := Ideal) .f32 1056964608#32 = ((1 / 2 : ℝ) : EReal) from k_3F000000,
    show FloatOps.ofBits (F := Ideal) .f32 1082130432#32 = ((4 : ℝ) : EReal) from k_40800000]
  rw [sel_lt, sel_lt]
  have hu := upOf_le (a / stepR a) N
  suffices h : ∀ q : ℝ, q = (⌊a / stepR a⌋₊ + upOf (a / stepR a) N : ℝ) * stepR a →
      (if q < 2 then ((2 * q : ℝ) : EReal) else if q < 4 then ((q + 2 : ℝ) : EReal) else ((q * (1 / 2) + 4 : ℝ) : EReal)) = (((codeR a N : ℕ) : ℝ) : EReal) by
    have := h _ rfl
    rw [← fptosi_nat (codeR a N) (by omega), ← this]
    rfl
  intro q hq
  rw [← apply_ite (fun r : ℝ => (r : EReal)), ← apply_ite (fun r : ℝ => (r : EReal))]
  congr 1
  unfold codeR
  by_cases h2 : a < 2
  · have hst : a / stepR a = 2 * a := by rw [stepR, if_pos h2]; ring
    rw [hst] at hq hu; rw [stepR, if_pos h2] at hq
    rw [if_pos h2]
    have hf : ⌊2 * a⌋₊ < 4 := (Nat.floor_lt (by linarith)).mpr (by push_cast; linarith)
    generalize upOf (2 * a) N = u at *
    generalize ⌊2 * a⌋₊ = f at *
    subst hq
    interval_cases f <;> interval_cases u <;> norm_num
  · rw [if_neg h2]
    push Not at h2
    by_cases h4 : a < 4
    · have hst : a / stepR a = a := by rw [stepR, if_neg (by linarith), if_pos h4]; ring
      rw [hst] at hq hu; rw [stepR, if_neg (by linarith), if_pos h4] at hq
      rw [if_pos h4]
      have hf : ⌊a⌋₊ < 4 := (Nat.floor_lt (by linarith)).mpr (by push_cast; linarith)
      have hf2 : 2 ≤ ⌊a⌋₊ := Nat.le_floor (by push_cast; linarith)
      generalize upOf a N = u at *
      generalize ⌊a⌋₊ = f at *
      subst hq
      interval_cases f <;> interval_cases u <;> norm_num
    · have hst : a / stepR a = a / 2 := by rw [stepR, if_neg (by linarith), if_neg h4]
      rw [hst] at hq hu; rw [stepR, if_neg (by linarith), if_neg h4] at hq
      rw [if_neg h4]
      push Not at h4
      have hf : ⌊a / 2⌋₊ < 4 := (Nat.floor_lt (by linarith)).mpr (by push_cast; linarith)
      have hf2 : 2 ≤ ⌊a / 2⌋₊ := Nat.le_floor (by push_cast; linarith)
      generalize upOf (a / 2) N = u at *
      generalize ⌊a / 2⌋₊ = f at *
      subst hq
      interval_cases f <;> interval_cases u <;> norm_num
end Cert.Quant
end
-- ==== Proof.RefW.lean ====
module

public import proofs.«01_k».proof.Proof.RefV

@[expose] public section

noncomputable section

namespace Cert.Quant

open Idealize.ShloMosaic Idealize.ShloMosaic.TcCoe Idealize.SL.Sem
open Cert.ReferenceIdeal Cert.ReferenceIdeal.Read

/-- The magnitude. -/
def absE (x : EReal) : EReal := max x (-x)
/-- The reciprocal of a positive scale, else zero. -/
def invE (dec : EReal) : EReal := if 0 < dec then Ideal.div 1 dec else 0
/-- The code of a value scaled by `t`, under the random byte `N`. -/
def codeE (w t : EReal) (N : ℕ) : ℕ := codeR (min (absE w * t) ((6 : ℝ) : EReal)).toReal N
/-- The code with its sign bit: no sign at code zero. -/
def nib (w t : EReal) (N : ℕ) : ℕ := if w < 0 ∧ codeE w t N ≠ 0 then codeE w t N + 8 else codeE w t N

theorem invE_nonneg (dec : EReal) : 0 ≤ invE dec := by
  unfold invE
  split_ifs with h
  · rw [Ideal.div, if_neg h.ne', one_mul]; exact EReal.inv_nonneg_of_nonneg h.le
  · exact le_rfl

theorem y_eq (w dec : EReal) : (if 0 < dec then Ideal.div w (if 0 < dec then dec else 1) else 0) = w * invE dec := by
  unfold invE
  split_ifs with h
  · rw [Ideal.div, Ideal.div, if_neg h.ne', if_neg h.ne', one_mul]
  · rw [mul_zero]

theorem absE_nonneg (x : EReal) : 0 ≤ absE x := by
  unfold absE
  rcases le_total 0 x with h | h
  · exact h.trans (le_max_left _ _)
  · exact (EReal.neg_nonneg.mpr h).trans (le_max_right _ _)

theorem absE_mul (w t : EReal) (ht : 0 ≤ t) : absE (w * t) = absE w * t := by
  unfold absE
  rw [← EReal.neg_mul]
  rcases le_total 0 w with h | h
  · have h1 : -w ≤ w := (EReal.neg_le_neg_iff.mpr h).trans (by simpa using h)
    rw [max_eq_left h1, max_eq_left (mul_le_mul_of_nonneg_right h1 ht)]
  · have h1 : w ≤ -w := h.trans (EReal.neg_nonneg.mpr h)
    rw [max_eq_right h1, max_eq_right (mul_le_mul_of_nonneg_right h1 ht)]

theorem absE_clip (y : EReal) : absE (min ((6 : ℝ) : EReal) (max ((-6 : ℝ) : EReal) y)) = min (absE y) ((6 : ℝ) : EReal) := by
  unfold absE
  induction y with
  | bot =>
    have h : min ((6 : ℝ) : EReal) ((-6 : ℝ) : EReal) = ((-6 : ℝ) : EReal) := min_eq_right (EReal.coe_le_coe_iff.mpr (by norm_num))
    have h' : -((-6 : ℝ) : EReal) = ((6 : ℝ) : EReal) := by rw [← EReal.coe_neg]; norm_num
    rw [max_eq_left bot_le, h, h', EReal.neg_bot, max_eq_right bot_le, min_eq_right le_top]
    exact max_eq_right (EReal.coe_le_coe_iff.mpr (by norm_num))
  | top => simp; rw [← EReal.coe_neg]; exact_mod_cast (by norm_num : (-6 : ℝ) ≤ 6)
  | coe y =>
    rw [← EReal.coe_neg, ← EReal.coe_strictMono.monotone.map_max, ← EReal.coe_strictMono.monotone.map_min, ← EReal.coe_neg, ← EReal.coe_strictMono.monotone.map_max,
      ← EReal.coe_strictMono.monotone.map_max, ← EReal.coe_strictMono.monotone.map_min]
    congr 1
    rcases le_total (-6) y with h1 | h1 <;> rcases le_total y 6 with h2 | h2 <;> rcases le_total 0 y with h3 | h3 <;>
      simp [max_def, min_def] <;> split_ifs <;> linarith

theorem clip_neg (y : EReal) : min ((6 : ℝ) : EReal) (max ((-6 : ℝ) : EReal) y) < 0 ↔ y < 0 := by
  rw [min_lt_iff, max_lt_iff]
  constructor
  · rintro (h | h)
    · exact absurd h (not_lt.mpr (by exact_mod_cast (by norm_num : (0 : ℝ) ≤ 6)))
    · exact h.2
  · intro h
    exact Or.inr ⟨by exact_mod_cast (by norm_num : (-6 : ℝ) < 0), h⟩

theorem codeR_zero (N : ℕ) : codeR 0 N = 0 := by
  unfold codeR
  rw [if_pos (by norm_num), mul_zero, Nat.floor_zero]
  have := upOf_nat 0 N
  simpa using this

theorem sign_iff (w t : EReal) (ht : 0 ≤ t) (N : ℕ) : (w * t < 0 ∧ codeE w t N ≠ 0) ↔ (w < 0 ∧ codeE w t N ≠ 0) := by
  constructor
  · rintro ⟨h, hc⟩
    refine ⟨?_, hc⟩
    by_contra hw
    exact absurd h (not_lt.mpr (mul_nonneg (not_lt.mp hw) ht))
  · rintro ⟨h, hc⟩
    refine ⟨?_, hc⟩
    rcases ht.lt_or_eq with h0 | h0
    · exact EReal.mul_neg_iff.mpr (Or.inr ⟨h, h0⟩)
    · exfalso; apply hc
      unfold codeE
      rw [← h0, mul_zero, min_eq_left (by exact_mod_cast (by norm_num : (0 : ℝ) ≤ 6)), EReal.toReal_zero, codeR_zero]

/-- A magnitude cut at six, as a real number. -/
theorem cut_real (p : EReal) (hp : 0 ≤ p) : ∃ a : ℝ, 0 ≤ a ∧ a ≤ 6 ∧ min p ((6 : ℝ) : EReal) = (a : EReal) := by
  have h6 : min p ((6 : ℝ) : EReal) ≤ ((6 : ℝ) : EReal) := min_le_right _ _
  have h0 : 0 ≤ min p ((6 : ℝ) : EReal) := le_min hp (by exact_mod_cast (by norm_num : (0 : ℝ) ≤ 6))
  have ht : min p ((6 : ℝ) : EReal) ≠ ⊤ := ne_of_lt (lt_of_le_of_lt h6 (EReal.coe_lt_top _))
  have hb : min p ((6 : ℝ) : EReal) ≠ ⊥ := ne_of_gt (lt_of_lt_of_le EReal.bot_lt_zero h0)
  refine ⟨(min p ((6 : ℝ) : EReal)).toReal, ?_, ?_, (EReal.coe_toReal ht hb).symm⟩
  · exact EReal.toReal_nonneg h0
  · exact_mod_cast (EReal.coe_toReal ht hb).le.trans h6

variable (x2 : (⟨S2x18432x640, .i8⟩ : BufTy).Contents (Elt Ideal)) (r1 : (⟨S2x40x18432, .f32⟩ : BufTy).Contents (Elt Ideal))
  (e0 : (⟨S_, .f32⟩ : BufTy).Contents (Elt Ideal)) (e1 : (⟨S2x40x16x18432, .f32⟩ : BufTy).Contents (Elt Ideal)) (i : S2x40x16x18432.Idx)

theorem v70_eq : val_main_v70 (F := Ideal) x2 i = (((x2 (ix3 (n0 := 2) (n1 := 18432) (n2 := 640) (i 0) (i 3) ⟨16 * (i 1).val + (i 2).val, by have h1 : (i 1).val < 40 := (i 1).isLt; have h2 : (i 2).val < 16 := (i 2).isLt; omega⟩)).toNat : ℝ) : EReal) := by
  simp only [val_main_v70_apply, val_main_v69_apply, val_main_v68_apply, val_main_v67_apply]
  have : idx_main_v67 (idx_main_v68 i) = ix3 (n0 := 2) (n1 := 18432) (n2 := 640) (i 0) (i 3) ⟨16 * (i 1).val + (i 2).val, by have h1 : (i 1).val < 40 := (i 1).isLt; have h2 : (i 2).val < 16 := (i 2).isLt; omega⟩ := by
    have h1 : (i 1).val < 40 := (i 1).isLt
    have h2 : (i 2).val < 16 := (i 2).isLt
    have h3 : (i 3).val < 18432 := (i 3).isLt
    have h0 : (i 0).val < 2 := (i 0).isLt
    funext a
    match a with
    | ⟨0, _⟩ => apply Fin.ext; show _ = (i 0).val; simp; try omega
    | ⟨1, _⟩ => apply Fin.ext; show _ = (i 3).val; simp; try omega
    | ⟨2, _⟩ => apply Fin.ext; show _ = 16 * (i 1).val + (i 2).val; simp; try omega
  rw [this]
  show ((((BitVec.setWidth 32 (_ : BitVec 8)).toInt : ℝ)) : EReal) = _
  congr 2
  have hx : ∀ x : BitVec 8, (BitVec.setWidth 32 x).toInt = (x.toNat : ℤ) := by decide +kernel
  rw [hx]

/-- The reference's scaled and clipped value. -/
theorem v51_eq : val_main_v51 (F := Ideal) r1 e0 e1 i = min ((6 : ℝ) : EReal) (max ((-6 : ℝ) : EReal) (e1 i * invE (r1 (ix3 (n0 := 2) (n1 := 40) (n2 := 18432) (i 0) (i 1) (i 3)) * e0 ix0))) := by
  simp only [val_main_v51_apply, val_main_call3_v4_apply, val_main_call3_v3_apply, val_main_cst_14_apply, val_main_call3_v2_apply, val_main_call3_v1_apply, val_main_call3_v0_apply, val_main_cst_13_apply, val_main_v50_apply, val_main_call2_v1_apply, val_main_call2_v2_apply, val_main_call2_v0_apply, val_main_cst_12_apply, val_main_v49_apply, val_main_v48_apply, val_main_v47_apply, val_main_call1_v1_apply, val_main_call1_v0_apply, val_main_cst_11_apply, val_main_v46_apply, val_main_v45_apply, val_main_cst_10_apply, val_main_v44_apply, val_main_v43_apply, val_main_v42_apply]
  have h1 : idx_main_v44 (idx_main_call2_v1 i) = ix3 (n0 := 2) (n1 := 40) (n2 := 18432) (i 0) (i 1) (i 3) := by
    funext a
    match a with
    | ⟨0, _⟩ => rfl
    | ⟨1, _⟩ => rfl
    | ⟨2, _⟩ => rfl
  have h2 : idx_main_v44 (idx_main_v48 i) = ix3 (n0 := 2) (n1 := 40) (n2 := 18432) (i 0) (i 1) (i 3) := by
    funext a
    match a with
    | ⟨0, _⟩ => rfl
    | ⟨1, _⟩ => rfl
    | ⟨2, _⟩ => rfl
  have h3 : ∀ k : S_.Idx, e0 k = e0 ix0 := fun k => congrArg e0 (funext fun a => a.elim0)
  rw [h1, h3]
  rw [← y_eq, ← k_40C00000, ← k_C0C00000]
  have hs : ∀ (d u v : EReal), Scalar.select (FloatOps.cmpf (F := Ideal) (φ := .f32) .ogt d (FloatOps.ofBits (F := Ideal) .f32 0#32)) u v = if 0 < d then u else v := by
    intro d u v
    show (if BitVec.ofBool (decide (Ideal.ofBits .f32 0#32 < d)) = 1#1 then u else v) = _
    rw [show Ideal.ofBits .f32 0#32 = 0 from by simp [Ideal.ofBits, Ideal.ieee]]
    by_cases h : 0 < d
    · rw [if_pos h, decide_eq_true h]; rfl
    · rw [if_neg h, decide_eq_false h]; rfl
  rw [hs, hs]
  rw [show FloatOps.ofBits (F := Ideal) .f32 1065353216#32 = (1 : EReal) from Ideal.ofBits_one_f32, show FloatOps.ofBits (F := Ideal) .f32 0#32 = (0 : EReal) from by simp [Ideal.ofBits, Ideal.ieee]]
  rfl
end Cert.Quant
end
-- ==== Proof.RefX.lean ====
module

public import proofs.«01_k».proof.Proof.RefW

@[expose] public section

set_option maxHeartbeats 4000000
set_option maxRecDepth 4096
noncomputable section
open Idealize.ShloMosaic Idealize.ShloMosaic.TcCoe Idealize.SL.Sem
open Cert.ReferenceIdeal Cert.ReferenceIdeal.Read
namespace Cert.Quant
variable (x2 : (⟨S2x18432x640, .i8⟩ : BufTy).Contents (Elt Ideal)) (r1 : (⟨S2x40x18432, .f32⟩ : BufTy).Contents (Elt Ideal)) (e0 : (⟨S_, .f32⟩ : BufTy).Contents (Elt Ideal)) (e1 : (⟨S2x40x16x18432, .f32⟩ : BufTy).Contents (Elt Ideal))

/-- The nibble of one element of the reference: rotated value, inverse scale and random byte taken at their indices. -/
def nibAt (b : Fin 2) (n : Fin 40) (j : Fin 16) (c : Fin 18432) : ℕ :=
  nib (e1 (ix4 b n j c)) (invE (r1 (ix3 b n c) * e0 ix0)) (x2 (ix3 b c ⟨16 * n.val + j.val, by omega⟩)).toNat

theorem cmp_lt (x z : EReal) (hz : z = 0) : FloatOps.cmpf (F := Ideal) (φ := .f32) .olt x z = BitVec.ofBool (decide (x < 0)) := by
  subst hz; rfl

theorem codeE_le (w t : EReal) (ht : 0 ≤ t) (N : ℕ) : codeE w t N ≤ 7 := by
  obtain ⟨a, h0, h6, ha⟩ := cut_real (absE w * t) (EReal.mul_nonneg (absE_nonneg w) ht)
  unfold codeE
  rw [ha]
  exact codeR_le a h0 h6 N

theorem nib_le (w t : EReal) (ht : 0 ≤ t) (N : ℕ) : nib w t N < 16 := by
  have := codeE_le w t ht N
  unfold nib; split_ifs <;> omega

theorem v102_eq (b : Fin 2) (n : Fin 40) (j : Fin 16) (c : Fin 18432) :
    val_main_v102 (F := Ideal) x2 r1 e0 e1 (ix4 b n j c) = BitVec.ofNat 32 (nibAt x2 r1 e0 e1 b n j c) := by
  set t := invE (r1 (ix3 b n c) * e0 ix0) with htd
  have ht : 0 ≤ t := invE_nonneg _
  set w := e1 (ix4 b n j c) with hw
  set N := (x2 (ix3 b c ⟨16 * n.val + j.val, by omega⟩)).toNat with hN
  obtain ⟨a, h0, h6, ha⟩ := cut_real (absE w * t) (EReal.mul_nonneg (absE_nonneg w) ht)
  have h51 : val_main_v51 (F := Ideal) r1 e0 e1 (ix4 b n j c) = min ((6 : ℝ) : EReal) (max ((-6 : ℝ) : EReal) (w * t)) := v51_eq r1 e0 e1 (ix4 b n j c)
  have h52 : val_main_v52 (F := Ideal) r1 e0 e1 (ix4 b n j c) = (a : EReal) := by
    rw [val_main_v52_apply, h51]
    show absE _ = _
    rw [absE_clip, absE_mul w t ht, ha]
  have h70 : val_main_v70 (F := Ideal) x2 (ix4 b n j c) = ((N : ℝ) : EReal) := v70_eq x2 (ix4 b n j c)
  have h94 := v94_eq x2 r1 e0 e1 (ix4 b n j c) a h0 h6 h52 N h70
  have hc : codeR a N = codeE w t N := by unfold codeE; rw [ha]; rfl
  rw [hc] at h94
  have hle := codeE_le w t ht N
  have hnib : nibAt x2 r1 e0 e1 b n j c = nib w t N := rfl
  rw [hnib, val_main_v102_apply, val_main_v99_apply, val_main_v96_apply, val_main_v98_apply, val_main_v101_apply, h94, h51,
    val_main_v95_apply, val_main_v97_apply, val_main_v100_apply]
  have hcut : FloatOps.cmpf (F := Ideal) (φ := .f32) .olt (min ((6 : ℝ) : EReal) (max ((-6 : ℝ) : EReal) (w * t))) (val_main_cst_28 (F := Ideal) (idx_main_v95 (ix4 b n j c)))
      = BitVec.ofBool (decide (w * t < 0)) := by
    rw [cmp_lt _ (val_main_cst_28 (F := Ideal) (idx_main_v95 (ix4 b n j c))) (show Ideal.ofBits .f32 0#32 = 0 from by simp [Ideal.ofBits, Ideal.ieee])]
    congr 1
    exact decide_eq_decide.mpr (clip_neg (w * t))
  rw [hcut]
  show Scalar.select (IntOp.andi _ (IntOp.cmpi .sgt _ 0#32)) (IntOp.ori _ 8#32) _ = _
  have hs := sign_iff w t ht N
  unfold nib
  generalize codeE w t N = k at hs hle ⊢
  have key : ∀ k : Fin 8, ∀ p : Bool, Scalar.select (IntOp.andi (BitVec.ofBool p) (IntOp.cmpi .sgt (BitVec.ofNat 32 k.val) 0#32)) (IntOp.ori (BitVec.ofNat 32 k.val) 8#32) (BitVec.ofNat 32 k.val)
      = BitVec.ofNat 32 (if p = true ∧ k.val ≠ 0 then k.val + 8 else k.val) := by decide +kernel
  have := key ⟨k, by omega⟩ (decide (w * t < 0))
  rw [this]
  congr 1
  by_cases h : w < 0 ∧ k ≠ 0
  · rw [if_pos h, if_pos (by simpa using hs.mpr h)]
  · rw [if_neg h, if_neg (fun h' => h (hs.mp (by simpa using h')))]

/-- A packed byte of the reference: rows 2k and 2k+1 of a block. -/
theorem v112_eq (b : Fin 2) (n : Fin 40) (k : Fin 8) (c : Fin 18432) :
    val_main_v112 (F := Ideal) x2 r1 e0 e1 (ix3 b ⟨8 * n.val + k.val, by omega⟩ c)
      = BitVec.ofNat 8 (nibAt x2 r1 e0 e1 b n ⟨2 * k.val, by omega⟩ c + 16 * nibAt x2 r1 e0 e1 b n ⟨2 * k.val + 1, by omega⟩ c) := by
  rw [val_main_v112_apply, val_main_v111_apply, val_main_v110_apply, val_main_v105_apply, val_main_v104_apply, val_main_v103_apply,
    val_main_v109_apply, val_main_v107_apply, val_main_v106_apply, val_main_v103_apply, val_main_v108_apply]
  have i1 : idx_main_v103 (idx_main_v104 (idx_main_v105 (idx_main_v111 (ix3 b ⟨8 * n.val + k.val, by omega⟩ c)))) = ix4 b n ⟨2 * k.val, by omega⟩ c := by
    have h0 := b.isLt; have h1 := n.isLt; have h2 := k.isLt; have h3 := c.isLt
    funext a
    match a with
    | ⟨0, _⟩ => apply Fin.ext; show _ = b.val; simp; try omega
    | ⟨1, _⟩ => apply Fin.ext; show _ = n.val; simp; try omega
    | ⟨2, _⟩ => apply Fin.ext; show _ = 2 * k.val; simp; try omega
    | ⟨3, _⟩ => apply Fin.ext; show _ = c.val; simp; try omega
  have i2 : idx_main_v103 (idx_main_v106 (idx_main_v107 (idx_main_v111 (ix3 b ⟨8 * n.val + k.val, by omega⟩ c)))) = ix4 b n ⟨2 * k.val + 1, by omega⟩ c := by
    have h0 := b.isLt; have h1 := n.isLt; have h2 := k.isLt; have h3 := c.isLt
    funext a
    match a with
    | ⟨0, _⟩ => apply Fin.ext; show _ = b.val; simp; try omega
    | ⟨1, _⟩ => apply Fin.ext; show _ = n.val; simp; try omega
    | ⟨2, _⟩ => apply Fin.ext; show _ = 2 * k.val + 1; simp; try omega
    | ⟨3, _⟩ => apply Fin.ext; show _ = c.val; simp; try omega
  rw [i1, i2, v102_eq, v102_eq]
  have a1 : nibAt x2 r1 e0 e1 b n ⟨2 * k.val, by omega⟩ c < 16 := nib_le _ _ (invE_nonneg _) _
  have a2 : nibAt x2 r1 e0 e1 b n ⟨2 * k.val + 1, by omega⟩ c < 16 := nib_le _ _ (invE_nonneg _) _
  generalize nibAt x2 r1 e0 e1 b n ⟨2 * k.val, by omega⟩ c = u at a1 ⊢
  generalize nibAt x2 r1 e0 e1 b n ⟨2 * k.val + 1, by omega⟩ c = v at a2 ⊢
  have key : ∀ u v : Fin 16, (IntOp.ori (BitVec.ofNat 32 u.val) (IntOp.shli .host (BitVec.ofNat 32 v.val) 4#32)).setWidth 8 = BitVec.ofNat 8 (u.val + 16 * v.val) := by decide +kernel
  exact key ⟨u, a1⟩ ⟨v, a2⟩
end Cert.Quant
end
-- ==== Proof.RefE.lean ====
module

public import proofs.«01_k».proof.Proof.RefX
public import proofs.«01_k».proof.Proof.Gen.ReferenceIdeal.Run

@[expose] public section

noncomputable section

namespace Cert.Quant

open Idealize.ShloMosaic Idealize.ShloMosaic.TcCoe Idealize.SL.Sem
open Cert.ReferenceIdeal Cert.ReferenceIdeal.Value Cert.ReferenceIdeal.Gen Idealize.SL Idealize.ShloMosaic.StableHlo Idealize.ShloMosaic.Pipeline

variable (m : (ℓ : Loc nD τ sig) → Buf (Elt Ideal) ℓ)

theorem dot_read (x : S2x640x18432.Idx → EReal) (w : S16x16.Idx → EReal) (b : Fin 2) (n : Fin 40) (i : Fin 16) (l : Fin 18432) :
    transpose S2x40x16x18432 [0, 1, 3, 2] ((Host.dotGeneral (F := Ideal) (φ₁ := .bf16) (φ₂ := .bf16) dot_S2x40x16x18432_S16x16_S2x40x18432x16_2_1_013_0_n_n none (shapeCast _ x shapeCasts_S2x640x18432_S2x40x16x18432) w) : FVec Ideal S2x40x18432x16 .f32) transposes_S2x40x18432x16_S2x40x16x18432_0_1_3_2 (ix4 b n i l)
      = ∑ j : Fin 16, x (ix3 b ⟨16 * n.val + j.val, by omega⟩ l) * w (ix2 i j) := by
  pointwise
  simp only [Nat.mul_comm n.val 16]
set_option maxRecDepth 65536 in
set_option maxHeartbeats 4000000 in
theorem e1_eq (c : Dev nD) (b : Fin 2) (n : Fin 40) (i : Fin 16) (l : Fin 18432) :
    exitV m c (Proc.devRef .tc main_v30) (ix4 b n i l)
      = ∑ j : Fin 16, rotE (fun k => m ((c.tc : Thread nD τ).loc main_arg1) (ix1 k)) i.val j * m ((c.tc : Thread nD τ).loc main_arg0) (ix3 b ⟨16 * n.val + j.val, by omega⟩ l) := by
  rw [exit_main_v30]
  generalize m ((c.tc : Thread nD τ).loc main_arg1) = sg
  generalize m ((c.tc : Thread nD τ).loc main_arg0) = x
  refine (dot_read _ _ b n i l).trans (Finset.sum_congr (M := EReal) rfl fun j _ => (mul_comm _ _).trans (congrArg (fun y : EReal => y * x (ix3 b ⟨16 * n.val + j.val, by omega⟩ l)) ?_))
  pointwise
  have key : ∀ i j : Fin 16, IntOp.andi
      (IntOp.addi
        (IntOp.addi
          (IntOp.addi (IntOp.andi (IntOp.andi (BitVec.ofNat 32 i.val) (BitVec.ofNat 32 j.val)) 1#32)
            (IntOp.andi (IntOp.shrsi ArithUnit.host (IntOp.andi (BitVec.ofNat 32 i.val) (BitVec.ofNat 32 j.val)) 1#32) 1#32))
          (IntOp.andi (IntOp.shrsi ArithUnit.host (IntOp.andi (BitVec.ofNat 32 i.val) (BitVec.ofNat 32 j.val)) 2#32) 1#32))
        (IntOp.andi (IntOp.shrsi ArithUnit.host (IntOp.andi (BitVec.ofNat 32 i.val) (BitVec.ofNat 32 j.val)) 3#32) 1#32))
      1#32 = par i.val j.val := by decide +kernel
  rw [key]
  rfl
end Cert.Quant
end
-- ==== Proof.RefU.lean ====
module

public import proofs.«01_k».proof.Proof.RefX
public import proofs.«01_k».proof.Proof.Gen.ReferenceIdeal.Run
public import Idealize.ShloMosaic.Lib.Pipeline.ValueKit

@[expose] public section

noncomputable section

namespace Cert.Quant

open Idealize.ShloMosaic Idealize.ShloMosaic.TcCoe Idealize.SL.Sem
open Cert.ReferenceIdeal Cert.ReferenceIdeal.Value Cert.ReferenceIdeal.Gen Idealize.SL Idealize.ShloMosaic.StableHlo Idealize.ShloMosaic.Pipeline

section
variable {F : FTy → Type} [FloatOps F] (m : (ℓ : Loc nD τ sig) → Buf (Elt F) ℓ)

set_option maxRecDepth 8192 in
set_option maxHeartbeats 2000000 in
/-- The array the reference's rounding call is entered with. -/
theorem entry_v40 (c : Dev nD) : Gen.V m c main_v40 = minimumf (Host.divf (exitV m c (Proc.devRef .tc main_v35)) (broadcastInDim S2x40x18432 ![] bcast_S_S2x40x18432 (mulf (constant S_ .f32 0x40C00000#32) (exitV m c (Proc.devRef .tc main_v33))))) (broadcastInDim S2x40x18432 ![] bcast_S_S2x40x18432 (constant S_ .f32 0x43E00000#32)) := by
  rw [exit_main_v35, exit_main_v33]
  show Gen.V0 m c (Proc.devRef .tc main_v40) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

theorem iblk_v40 (c : Dev nD) (t : Fin cfg0.N) (i : S2x40x18432.Idx) : Gen.iblk m c 0 t i = Gen.V m c main_v40 i := by
  show Gen.V m c main_v40 (((cfg0.win 0).blk t).view.emb i) = _
  congr 1
  funext a
  apply Fin.ext
  blk_simp
  have h : ∀ (t : Fin cfg0.N) (a : Fin 3), win0_0.index t a = 0 := by decide +kernel
  have := h t a
  rw [this, Nat.zero_mul, Nat.zero_add]

theorem out1_eq (x : Vec F S2x40x18432 .f32) (y : S2x40x18432.Idx) : Gen.out0_1 x y = truncf .fp8e4m3 x bitsLt_fp8e4m3_f32 y := by
  unfold Gen.out0_1
  refine View.canon_apply_of_pieces (truncf .fp8e4m3 x bitsLt_fp8e4m3_f32) _ ?_ y (cover0_1 _ y)
  intro p hp z
  obtain rfl := List.mem_singleton.mp hp
  unfold k0_pay1
  show truncf .fp8e4m3 _ _ z = _
  rw [show shapeCast S2x40x18432 (View.ld x r0_0) shapeCasts_S2x40x18432_S2x40x18432 = View.ld x r0_0 from funext fun i => shapeCast_apply _ _ i i rfl]
  rfl

theorem out2_eq (x : Vec F S2x40x18432 .f32) (y : S2x40x18432.Idx) : Gen.out0_2 x y = extf .f32 (truncf .fp8e4m3 x bitsLt_fp8e4m3_f32) bitsLt_fp8e4m3_f32 y := by
  unfold Gen.out0_2
  refine View.canon_apply_of_pieces (extf .f32 (truncf .fp8e4m3 x bitsLt_fp8e4m3_f32) bitsLt_fp8e4m3_f32) _ ?_ y (cover0_2 _ y)
  intro p hp z
  obtain rfl := List.mem_singleton.mp hp
  unfold k0_pay2 k0_pay1
  show extf .f32 (truncf .fp8e4m3 _ _) _ z = _
  rw [show shapeCast S2x40x18432 (View.ld x r0_0) shapeCasts_S2x40x18432_S2x40x18432 = View.ld x r0_0 from funext fun i => shapeCast_apply _ _ i i rfl]
  rfl

theorem v41_0_eq (c : Dev nD) : reg_main_v41_0 m c = truncf .fp8e4m3 (Gen.V m c main_v40) bitsLt_fp8e4m3_f32 := by
  unfold reg_main_v41_0
  funext j
  refine ((Gen.dats m 0 c).arrAt_emb_eq_after_last 1 ⟨0, by decide⟩ (by decide +kernel) j).trans ?_
  rw [Gen.after0_1]
  have : ∀ t, iblk m c 0 t = Gen.V m c main_v40 := fun t => funext fun i => iblk_v40 m c t i
  rw [this]
  generalize Gen.V m c main_v40 = x
  blk_simp
  exact out1_eq x j

theorem v41_1_eq (c : Dev nD) : reg_main_v41_1 m c = extf .f32 (truncf .fp8e4m3 (Gen.V m c main_v40) bitsLt_fp8e4m3_f32) bitsLt_fp8e4m3_f32 := by
  unfold reg_main_v41_1
  funext j
  refine ((Gen.dats m 0 c).arrAt_emb_eq_after_last 2 ⟨0, by decide⟩ (by decide +kernel) j).trans ?_
  rw [Gen.after0_2]
  have : ∀ t, iblk m c 0 t = Gen.V m c main_v40 := fun t => funext fun i => iblk_v40 m c t i
  rw [this]
  generalize Gen.V m c main_v40 = x
  blk_simp
  exact out2_eq x j
end

variable (m : (ℓ : Loc nD τ sig) → Buf (Elt Ideal) ℓ)

theorem e2_eq (c : Dev nD) (b : Fin 2) (n : Fin 40) (l : Fin 18432) :
    exitV m c (Proc.devRef .tc main_v35) (ix3 b n l)
      = Finset.univ.sup fun i : Fin 16 => absE (exitV m c (Proc.devRef .tc main_v30) (ix4 b n i l)) := by
  rw [exit_main_v30, exit_main_v35]
  generalize transpose S2x40x16x18432 _ _ _ = w
  pointwise
  rw [Finset.sup_def, Finset.fold, show Ideal.ofBits FTy.f32 4286578688#32 = ⊥ from by simp [Ideal.ofBits, Ideal.ieee]]
  rfl
end Cert.Quant
end
-- ==== Proof.Goal.lean ====
module

public import proofs.«01_k».proof.Proof.RefE
public import proofs.«01_k».proof.Proof.RefU

@[expose] public section

noncomputable section

namespace Cert.Quant

open Idealize.ShloMosaic Idealize.ShloMosaic.TcCoe Idealize.SL.Sem
open Cert.ReferenceIdeal Cert.ReferenceIdeal.Value Cert.ReferenceIdeal.Gen Cert.ReferenceIdeal.Read

/-! The four results as functions of the four arguments. -/

section
variable (x0 : S2x640x18432.Idx → EReal) (x1 : S16.Idx → EReal) (x2 : S2x18432x640.Idx → BitVec 8) (x3 : S_.Idx → EReal)

/-- Row `i` of block `n`, rotated. -/
def rotAt (b : Fin 2) (n : Fin 40) (i : Fin 16) (l : Fin 18432) : EReal :=
  ∑ j : Fin 16, rotE (fun k => x1 (ix1 k)) i.val j * x0 (ix3 b ⟨16 * n.val + j.val, by omega⟩ l)

/-- The largest magnitude of a block. -/
def amaxAt (b : Fin 2) (n : Fin 40) (l : Fin 18432) : EReal :=
  Finset.univ.sup fun i : Fin 16 => absE (rotAt x0 x1 b n i l)

/-- The tensor scale. -/
def tsE (a : EReal) : EReal := if 0 < a then Ideal.div a (Ideal.ofBits .f32 0x45280000#32) else 1

/-- A block's scale from its largest magnitude and the tensor scale. -/
def sbE (a ts : EReal) : EReal := min (Ideal.div a (Ideal.ofBits .f32 0x40C00000#32 * ts)) (Ideal.ofBits .f32 0x43E00000#32)

/-- The inverse of a block's decode scale. -/
def invAt (b : Fin 2) (n : Fin 40) (l : Fin 18432) : EReal :=
  invE (sbE (amaxAt x0 x1 b n l) (tsE (x3 ix0)) * tsE (x3 ix0))

/-- The nibble of one element. -/
def nibG (b : Fin 2) (n : Fin 40) (i : Fin 16) (l : Fin 18432) : ℕ :=
  nib (rotAt x0 x1 b n i l) (invAt x0 x1 x3 b n l) (x2 (ix3 b l ⟨16 * n.val + i.val, by omega⟩)).toNat

/-- The largest magnitudes. -/
def res0 : S2x40x18432.Idx → EReal := fun i => amaxAt x0 x1 (i 0) (i 1) (i 2)

/-- The packed codes. -/
def res1 : S2x320x18432.Idx → BitVec 8 := fun i =>
  BitVec.ofNat 8 (nibG x0 x1 x2 x3 (i 0) ⟨(i 1).val / 8, by have : (i 1).val < 320 := (i 1).isLt; omega⟩ ⟨2 * ((i 1).val % 8), by omega⟩ (i 2)
    + 16 * nibG x0 x1 x2 x3 (i 0) ⟨(i 1).val / 8, by have : (i 1).val < 320 := (i 1).isLt; omega⟩ ⟨2 * ((i 1).val % 8) + 1, by omega⟩ (i 2))

/-- The block scales. -/
def res2 : S2x40x18432.Idx → EReal := fun i => sbE (amaxAt x0 x1 (i 0) (i 1) (i 2)) (tsE (x3 ix0))

/-- The tensor scale, on every place of one tile. -/
def res3 : S8x128.Idx → EReal := fun _ => tsE (x3 ix0)
end

theorem sel_gt (d u v : EReal) : Scalar.select (FloatOps.cmpf (F := Ideal) (φ := .f32) .ogt d (FloatOps.ofBits (F := Ideal) .f32 0#32)) u v = if 0 < d then u else v := by
  show (if BitVec.ofBool (decide (Ideal.ofBits .f32 0#32 < d)) = 1#1 then u else v) = _
  rw [show Ideal.ofBits .f32 0#32 = 0 from by simp [Ideal.ofBits, Ideal.ieee]]
  by_cases h : 0 < d
  · rw [if_pos h, decide_eq_true h]; rfl
  · rw [if_neg h, decide_eq_false h]; rfl

variable (m : (ℓ : Loc nD τ sig) → Buf (Elt Ideal) ℓ) (c : Dev nD)

theorem ref_ts : exitV m c (Proc.devRef .tc main_v33) ix0 = tsE (m ((c.tc : Thread nD τ).loc main_arg3) ix0) := by
  rw [exit_main_v33]
  refine (sel_gt _ _ _).trans ?_
  unfold tsE
  rw [show id (constant (F := Ideal) S_ .f32 0x3F800000#32) ix0 = (1 : EReal) from Ideal.ofBits_one_f32]
  rfl

theorem ref_amax (b : Fin 2) (n : Fin 40) (l : Fin 18432) : exitV m c (Proc.devRef .tc main_v35) (ix3 b n l)
    = amaxAt (m ((c.tc : Thread nD τ).loc main_arg0)) (m ((c.tc : Thread nD τ).loc main_arg1)) b n l := by
  rw [e2_eq]
  unfold amaxAt
  refine congrArg (Finset.univ.sup (α := EReal)) (funext fun i => ?_)
  rw [e1_eq]
  rfl

theorem ref_sb (b : Fin 2) (n : Fin 40) (l : Fin 18432) : Gen.V m c main_v40 (ix3 b n l)
    = sbE (amaxAt (m ((c.tc : Thread nD τ).loc main_arg0)) (m ((c.tc : Thread nD τ).loc main_arg1)) b n l) (tsE (m ((c.tc : Thread nD τ).loc main_arg3) ix0)) := by
  rw [entry_v40, ← ref_amax, ← ref_ts]
  generalize exitV m c (Proc.devRef .tc main_v35) = a
  generalize exitV m c (Proc.devRef .tc main_v33) = t
  pointwise
  rfl

theorem ref_nib (b : Fin 2) (n : Fin 40) (i : Fin 16) (l : Fin 18432) :
    nibAt (m ((c.tc : Thread nD τ).loc main_arg2)) (exitV m c (Proc.devRef .tc main_v41_1)) (exitV m c (Proc.devRef .tc main_v33)) (exitV m c (Proc.devRef .tc main_v30)) b n i l
      = nibG (m ((c.tc : Thread nD τ).loc main_arg0)) (m ((c.tc : Thread nD τ).loc main_arg1)) (m ((c.tc : Thread nD τ).loc main_arg2)) (m ((c.tc : Thread nD τ).loc main_arg3)) b n i l := by
  have h1 := e1_eq m c b n i l
  have h2 : exitV m c (Proc.devRef .tc main_v41_1) (ix3 b n l) = _ := ((congrFun ((exit_main_v41_1 m c).trans (v41_1_eq m c)) (ix3 b n l)).trans (ref_sb m c b n l))
  have h3 := ref_ts m c
  unfold nibAt nibG invAt rotAt
  rw [h1, h2, h3]

theorem ix3_block (i : S2x320x18432.Idx) : i = ix3 (n0 := 2) (n1 := 320) (n2 := 18432) (i 0) ⟨8 * ((i 1).val / 8) + (i 1).val % 8, by have : (i 1).val < 320 := (i 1).isLt; omega⟩ (i 2) := by
  rw [show (⟨8 * ((i 1).val / 8) + (i 1).val % 8, by have : (i 1).val < 320 := (i 1).isLt; omega⟩ : Fin 320) = i 1 from Fin.ext (Nat.div_add_mod _ _)]
  exact (ix3_eta i).symm

/-- The reference's four results. -/
theorem ref_run (ρ : Dev nD → PrngReg) :
    θ_run defs (onTc (τ := τ) (main (F := Ideal))) ⟨m, fun _ => 0, ρ⟩ fun r => ∀ c : Dev nD,
      r.2.mem ((c.tc : Thread nD τ).loc main_v35) = res0 (m ((c.tc : Thread nD τ).loc main_arg0)) (m ((c.tc : Thread nD τ).loc main_arg1))
      ∧ r.2.mem ((c.tc : Thread nD τ).loc main_v112) = res1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41_0) = res2 (m ((c.tc : Thread nD τ).loc main_arg0)) (m ((c.tc : Thread nD τ).loc main_arg1)) (m ((c.tc : Thread nD τ).loc main_arg3))
      ∧ r.2.mem ((c.tc : Thread nD τ).loc main_v113) = res3 (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h0, h1, h2, h3, h4⟩ := h c
  refine ⟨h0.trans ?_, h1.trans ?_, h2.trans ?_, h3.trans ?_, h4⟩
  · rw [← exit_main_v35]
    funext i
    rw [show i = ix3 (i 0) (i 1) (i 2) from (ix3_eta i).symm]
    exact ref_amax m c _ _ _
  · rw [val_main_v112_eq, exit_main_arg2]
    funext i
    have hi : (i 1).val < 320 := (i 1).isLt
    have hb := ix3_block i
    refine (congrArg _ hb).trans ((v112_eq _ _ _ _ _ ⟨(i 1).val / 8, by omega⟩ ⟨(i 1).val % 8, by omega⟩ _).trans ?_)
    have hn := ref_nib m c
    unfold res1
    exact congrArg (BitVec.ofNat 8) (congrArg₂ (fun a b => a + 16 * b) (hn _ _ _ _) (hn _ _ _ _))
  · rw [v41_0_eq]
    funext i
    rw [show i = ix3 (i 0) (i 1) (i 2) from (ix3_eta i).symm]
    exact ref_sb m c _ _ _
  · funext i
    refine (broadcastInDim_apply _ bcast_S_S8x128 _ i ix0 (fun a => a.elim0)).trans ?_
    exact ref_ts m c
end Cert.Quant
end
-- ==== Proof.KElem.lean ====
module

public import proofs.«01_k».proof.Proof.Goal

@[expose] public section

noncomputable section

namespace Cert.Quant

open Cert.KernelIdeal Cert.KernelIdeal.Gen Idealize.ShloMosaic Idealize.ShloMosaic.TcCoe Idealize.SL.Sem

theorem sel_olt {α : Type} (x y : EReal) (u v : α) : Scalar.select (FloatOps.cmpf (F := Ideal) (φ := .f32) .olt x y) u v = if x < y then u else v := by
  show (if BitVec.ofBool (decide (x < y)) = 1#1 then u else v) = _
  by_cases h : x < y
  · rw [if_pos h, decide_eq_true h]; rfl
  · rw [if_neg h, decide_eq_false h]; rfl

theorem wordV_apply (s : FVec Ideal S8x128 .f32) (j : S8x128.Idx) : wordV s j = kword (s j) := by
  unfold wordV
  pointwise
  simp only [k_41800000, k_40000000, k_40800000, k_41000000, k_4B000000, k_4A800000, k_4A000000, k_49800000]
  rfl

theorem noiseV_apply (s : FVec Ideal S8x128 .f32) (j : S8x128.Idx) : noiseV s j = nword (s j) := by
  unfold noiseV
  pointwise
  simp only [k_1F00A001, k_6B800000]
  rfl

theorem clipV_apply (t : IVec S8x128 32) (j : S8x128.Idx) : clipV t j = kclip (t j) := by
  unfold clipV
  pointwise
  rfl

theorem signV_apply (W : FVec Ideal S8x128 .f32) (j : S8x128.Idx) : signV W j = if W j < 0 then 32768#32 else 0#32 := by
  unfold signV
  pointwise

theorem sumV_apply (w inv : FVec Ideal S8x128 .f32) (j : S8x128.Idx) : sumV w inv j = absE (w j) * inv j + max (absE (w j) * inv j) ((1 : ℝ) : EReal) := by
  unfold sumV
  pointwise
  rfl

theorem invV_apply (dec : FVec Ideal S8x128 .f32) (j : S8x128.Idx) : invV dec j = invE (dec j) := by
  unfold invV
  pointwise
  exact (y_eq 1 (dec j)).trans (one_mul _)

theorem pay14_apply (z : Elt Ideal .f32) (j : S8x128.Idx) : k0_pay14 z j = tsE z := by
  unfold k0_pay14
  pointwise
  rfl

theorem sbfV_apply (a : FVec Ideal S8x128 .f32) (z : Elt Ideal .f32) (j : S8x128.Idx) : sbfV a (k0_pay15 z) j = sbE (a j) (tsE z) := by
  unfold sbfV k0_pay15
  pointwise
  rw [pay14_apply]
  rfl

theorem sup16 (f : Fin 16 → EReal) : max (max (max (max (max (max (max (max (max (max (max (max (max (max (max (f 0) (f 1)) (f 2)) (f 3)) (f 4)) (f 5)) (f 6)) (f 7)) (f 8)) (f 9)) (f 10)) (f 11)) (f 12)) (f 13)) (f 14)) (f 15) = Finset.univ.sup f := by
  apply le_antisymm
  · simp only [max_le_iff]
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩
    all_goals exact Finset.le_sup (f := f) (Finset.mem_univ _)
  · refine Finset.sup_le fun i _ => ?_
    fin_cases i <;> simp only [le_max_iff] <;> simp only [Fin.reduceFinMk, Fin.zero_eta, Fin.mk_one, le_refl, true_or, or_true]

theorem amaxV_apply (w : Fin 16 → FVec Ideal S8x128 .f32) (j : S8x128.Idx) : amaxV w j = Finset.univ.sup fun i => absE (w i j) := by
  unfold amaxV
  pointwise
  exact sup16 fun i => absE (w i j)
end Cert.Quant
end
-- ==== Proof.KBlock.lean ====
module

public import proofs.«01_k».proof.Proof.KElem

@[expose] public section

noncomputable section

namespace Cert.Quant

open Cert.KernelIdeal Cert.KernelIdeal.Gen Idealize.ShloMosaic Idealize.ShloMosaic.TcCoe Idealize.SL.Sem

/-- A sum over 128 places of which only the sixteen of one group count. -/
theorem sum_group (n : Fin 8) (f : Fin 128 → EReal) (g : Fin 16 → EReal)
    (h : ∀ (a : Fin 8) (j : Fin 16), f ⟨16 * a.val + j.val, by omega⟩ = if a = n then g j else 0) :
    ∑ k : Fin 128, f k = ∑ j : Fin 16, g j := by
  rw [← (finProdFinEquiv (m := 8) (n := 16)).sum_comp f, Fintype.sum_prod_type, Finset.sum_eq_single n]
  · refine Finset.sum_congr rfl fun j _ => ?_
    have := h n j
    rw [if_pos rfl] at this
    rw [← this]
    exact congrArg f (Fin.ext (by show j.val + 16 * n.val = 16 * n.val + j.val; omega))
  · intro a _ ha
    refine Finset.sum_eq_zero fun j _ => ?_
    have := h a j
    rw [if_neg ha] at this
    rw [← this]
    exact congrArg f (Fin.ext (by show j.val + 16 * a.val = 16 * a.val + j.val; omega))
  · exact fun h => absurd (Finset.mem_univ n) h

/-- The noise matrix the kernel keeps. -/
def permV : FVec Ideal S128x128 .bf16 := k0_pay13 k0_pay3 k0_pay4 k0_pay5

theorem permV_apply (r k : Fin 128) : permV (ix2 r k) = if k.val / 16 = r.val % 8 ∧ k.val % 16 = r.val / 8 then Ideal.ofBits .f32 0x1A800000#32 else (0 : EReal) :=
  pay13_apply (ix2 r k)

section
variable (sg : Fin 16 → EReal) (X : Fin 20 → Vec Ideal S1x128x256 .bf16) (Y : Fin 20 → Vec Ideal S1x256x128 .i8) (z : EReal) (b : Fin 20)

/-- The lane of a block's half. -/
def laneB (l : Fin 128) : Fin 256 := ⟨128 * (bhF b).val + l.val, by have := (bhF b).isLt; omega⟩

/-- Row `i` of the block of rows `n` at lane `l`, rotated. -/
def rowB (i : Fin 16) (n : Fin 8) (l : Fin 128) : EReal :=
  ∑ j : Fin 16, rotE sg i.val j * X b (ix3 0 ⟨16 * n.val + j.val, by omega⟩ (laneB b l))

theorem pay16_row (i : Fin 16) (n : Fin 8) (l : Fin 128) :
    k0_pay16 (F := Ideal) (rotV (F := Ideal) sg) (X b) (ix2 ⟨8 * i.val + n.val, by omega⟩ (laneB b l)) = rowB sg X b i n l := by
  rw [pay16_apply]
  unfold rowB
  refine sum_group n _ _ fun a j => ?_
  rw [rotV_apply]
  show (if (16 * a.val + j.val) / 16 = (8 * i.val + n.val) % 8 then rotE sg ((8 * i.val + n.val) / 8) ⟨(16 * a.val + j.val) % 16, _⟩ else (0 : EReal)) * _ = _
  rw [show (16 * a.val + j.val) / 16 = a.val by omega, show (8 * i.val + n.val) % 8 = n.val by omega, show (8 * i.val + n.val) / 8 = i.val by omega]
  rw [show (⟨(16 * a.val + j.val) % 16, Nat.mod_lt _ (by decide)⟩ : Fin 16) = j from Fin.ext (by show (16 * a.val + j.val) % 16 = j.val; omega)]
  by_cases h : a = n
  · rw [if_pos (by rw [h]), if_pos h, h]
    rfl
  · rw [if_neg (fun e => h (Fin.ext e)), if_neg h]
    exact zero_mul _

theorem pay17_row (i : Fin 16) (n : Fin 8) (l : Fin 128) :
    k0_pay17 (F := Ideal) (Y b) permV (ix2 ⟨8 * i.val + n.val, by omega⟩ (laneB b l))
      = ((((Y b (ix3 0 (laneB b l) ⟨16 * n.val + i.val, by omega⟩) : BitVec 8).toNat : ℝ) * 2 ^ (-74 : ℤ) : ℝ) : EReal) := by
  rw [pay17_apply]
  refine (sum_group n _ (fun j => if j = i then ((((Y b (ix3 0 (laneB b l) ⟨16 * n.val + i.val, by omega⟩) : BitVec 8).toNat : ℝ) * 2 ^ (-74 : ℤ) : ℝ) : EReal) else 0) fun a j => ?_).trans ?_
  · refine (congrArg (fun y : EReal => y * _) (permV_apply ⟨8 * i.val + n.val, by omega⟩ ⟨16 * a.val + j.val, by omega⟩)).trans ?_
    show (if (16 * a.val + j.val) / 16 = (8 * i.val + n.val) % 8 ∧ (16 * a.val + j.val) % 16 = (8 * i.val + n.val) / 8 then Ideal.ofBits .f32 0x1A800000#32 else (0 : EReal)) * _ = _
    rw [show (16 * a.val + j.val) / 16 = a.val by omega, show (8 * i.val + n.val) % 8 = n.val by omega, show (8 * i.val + n.val) / 8 = i.val by omega,
      show (16 * a.val + j.val) % 16 = j.val by omega]
    by_cases h : a = n
    · by_cases h' : j = i
      · rw [if_pos ⟨by rw [h], by rw [h']⟩, if_pos h, if_pos h', k_1A800000, h, h', mul_comm, EReal.coe_mul]
        rfl
      · rw [if_neg (fun e => h' (Fin.ext e.2)), if_pos h, if_neg h']
        exact zero_mul _
    · rw [if_neg (fun e => h (Fin.ext e.1)), if_neg h]
      exact zero_mul _
  · rw [Finset.sum_ite_eq' Finset.univ i, if_pos (Finset.mem_univ _)]

theorem wB_apply (i : Fin 16) (n : Fin 8) (l : Fin 128) : wB (rotV (F := Ideal) sg) X b i (ix2 n l) = rowB sg X b i n l := by
  unfold wB
  rw [tileW_apply]
  exact pay16_row sg X b i n l

/-- A block's largest magnitude. -/
def amB (n : Fin 8) (l : Fin 128) : EReal := Finset.univ.sup fun i : Fin 16 => absE (rowB sg X b i n l)

theorem amaxB_apply (n : Fin 8) (l : Fin 128) : amaxB (rotV (F := Ideal) sg) X b (ix2 n l) = amB sg X b n l := by
  unfold amaxB amB
  rw [amaxV_apply]
  simp only [wB_apply]

theorem sbfB_apply (n : Fin 8) (l : Fin 128) : sbfB (rotV (F := Ideal) sg) X z b (ix2 n l) = sbE (amB sg X b n l) (tsE z) := by
  unfold sbfB
  rw [sbfV_apply, amaxB_apply]

theorem invB_apply (n : Fin 8) (l : Fin 128) : invB (rotV (F := Ideal) sg) X z b (ix2 n l) = invE (sbE (amB sg X b n l) (tsE z) * tsE z) := by
  unfold invB
  rw [invV_apply]
  show invE (sbfB (rotV (F := Ideal) sg) X z b (ix2 n l) * k0_pay14 (F := Ideal) z (ix2 n l)) = _
  rw [sbfB_apply, pay14_apply]

/-- The random byte of a block's element. -/
def byteB (i : Fin 16) (n : Fin 8) (l : Fin 128) : ℕ := (Y b (ix3 0 (laneB b l) ⟨16 * n.val + i.val, by omega⟩) : BitVec 8).toNat

/-- The inverse scale of a block's column. -/
def invW (n : Fin 8) (l : Fin 128) : EReal := invE (sbE (amB sg X b n l) (tsE z) * tsE z)

theorem codeB_apply (i : Fin 16) (n : Fin 8) (l : Fin 128) :
    codeB (rotV (F := Ideal) sg) permV X Y z b i (ix2 n l)
      = kcode (absE (rowB sg X b i n l) * invW sg X z b n l) (((byteB Y b i n l : ℝ) * 2 ^ (-74 : ℤ) : ℝ) : EReal) := by
  unfold codeB kcode invW
  rw [clipV_apply]
  show kclip (wordV _ _ - noiseV _ _) = _
  rw [wordV_apply, noiseV_apply, sumV_apply, tileW_apply, wB_apply, invB_apply]
  have e := pay17_row Y b i n l
  unfold laneB at e
  unfold byteB laneB
  generalize kword _ = K
  exact congrArg (fun q : EReal => kclip (K - nword q)) e

/-- The code word of a block's element holds its code in its upper bits. -/
theorem codeB_div (i : Fin 16) (n : Fin 8) (l : Fin 128) :
    (codeB (rotV (F := Ideal) sg) permV X Y z b i (ix2 n l)).toNat / 64 = 129 + codeE (rowB sg X b i n l) (invW sg X z b n l) (byteB Y b i n l)
      ∧ (codeB (rotV (F := Ideal) sg) permV X Y z b i (ix2 n l)).toNat < 65536 := by
  rw [codeB_apply]
  have hb : byteB Y b i n l < 256 := BitVec.isLt _
  generalize byteB Y b i n l = N at hb ⊢
  unfold codeE
  have hp : 0 ≤ absE (rowB sg X b i n l) * invW sg X z b n l := EReal.mul_nonneg (absE_nonneg _) (invE_nonneg _)
  generalize absE (rowB sg X b i n l) * invW sg X z b n l = p at hp ⊢
  exact kcode_div p hp N hb

theorem sgnB_apply (i : Fin 16) (n : Fin 8) (l : Fin 128) :
    sgnB (rotV (F := Ideal) sg) X b i (ix2 n l) = if rowB sg X b i n l < 0 then 32768#32 else 0#32 := by
  unfold sgnB
  rw [signV_apply, wB_apply]
end
end Cert.Quant
end
-- ==== Proof.Pack.lean ====
/- The packing of eight code words and eight signs into one word of nibbles, on the words alone. -/
module

public import proofs.«01_k».proof.Proof.KBlock

@[expose] public section

noncomputable section

namespace Cert.Quant

/-- Four bytes as a word, the first lowest. -/
def word4 (b : Fin 4 → BitVec 8) : BitVec 32 := b 3 ++ b 2 ++ b 1 ++ b 0

/-- Four bytes' value. -/
def val4 (x : Fin 4 → ℕ) : ℕ := x 0 + 256 * x 1 + 65536 * x 2 + 16777216 * x 3

theorem word4_val (x : Fin 4 → ℕ) (h : ∀ q, x q < 256) : BitVec.ofNat 32 (val4 x) = word4 fun q => BitVec.ofNat 8 (x q) := by
  apply BitVec.eq_of_toNat_eq
  have h0 := h 0; have h1 := h 1; have h2 := h 2; have h3 := h 3
  unfold word4 val4
  rw [BitVec.toNat_append, BitVec.toNat_append, BitVec.toNat_append, ← Nat.shiftLeft_add_eq_or_of_lt (BitVec.isLt _), ← Nat.shiftLeft_add_eq_or_of_lt (BitVec.isLt _),
    ← Nat.shiftLeft_add_eq_or_of_lt (BitVec.isLt _)]
  simp only [BitVec.toNat_ofNat, Nat.shiftLeft_eq]
  omega

/-- Packing four code words to bytes. -/
def codeW (t0 t2 t4 t6 : BitVec 32) : BitVec 32 :=
  (((t0 ||| t4 <<< 16) >>> 6) &&& 16711935#32) ||| (((t2 ||| t6 <<< 16) <<< 2) &&& (16711935#32 ^^^ 4294967295#32))

def signW (s0 s2 s4 s6 : BitVec 32) : BitVec 32 :=
  (((s0 ||| s4 <<< 16) >>> 8) &&& 16711935#32) ||| ((s2 ||| s6 <<< 16) &&& (16711935#32 ^^^ 4294967295#32))

def nibW (even odd evenS oddS : BitVec 32) : BitVec 32 :=
  (even + odd <<< 4 - 2576980369#32) + ((even + odd <<< 4 + 3722304998#32) &&& ((oddS &&& 2155905152#32) ||| (evenS >>> 4 &&& 134744072#32)))

/-- The words whose upper bits are a code. -/
abbrev codeWord (c : Fin 8) (r : Fin 64) : BitVec 32 := BitVec.ofNat 32 (64 * (129 + c.val) + r.val)

theorem cw0 : ∀ c r, (codeWord c r >>> 6) &&& 16711935#32 = BitVec.ofNat 32 (129 + c.val) := by decide +kernel
theorem cw4 : ∀ c r, (codeWord c r <<< 16 >>> 6) &&& 16711935#32 = BitVec.ofNat 32 (65536 * (129 + c.val)) := by decide +kernel
theorem cw2 : ∀ c r, (codeWord c r <<< 2) &&& (16711935#32 ^^^ 4294967295#32) = BitVec.ofNat 32 (256 * (129 + c.val)) := by decide +kernel
theorem cw6 : ∀ c r, (codeWord c r <<< 16 <<< 2) &&& (16711935#32 ^^^ 4294967295#32) = BitVec.ofNat 32 (16777216 * (129 + c.val)) := by decide +kernel

theorem or4 : ∀ c0 c2 c4 c6 : Fin 8, (BitVec.ofNat 32 (129 + c0.val) ||| BitVec.ofNat 32 (65536 * (129 + c4.val)))
      ||| (BitVec.ofNat 32 (256 * (129 + c2.val)) ||| BitVec.ofNat 32 (16777216 * (129 + c6.val)))
    = BitVec.ofNat 32 ((129 + c0.val) + 256 * (129 + c2.val) + 65536 * (129 + c4.val) + 16777216 * (129 + c6.val)) := by decide +kernel

theorem codeW_eq (c : Fin 4 → Fin 8) (r : Fin 4 → Fin 64) :
    codeW (codeWord (c 0) (r 0)) (codeWord (c 1) (r 1)) (codeWord (c 2) (r 2)) (codeWord (c 3) (r 3)) = BitVec.ofNat 32 (val4 fun q => 129 + (c q).val) := by
  unfold codeW
  have h1 : ∀ a b : BitVec 32, (a ||| b) >>> 6 &&& 16711935#32 = (a >>> 6 &&& 16711935#32) ||| (b >>> 6 &&& 16711935#32) := fun a b => by
    rw [BitVec.ushiftRight_or_distrib]
    ext i hi
    simp only [BitVec.getElem_and, BitVec.getElem_or, Bool.and_or_distrib_right]
  have h2 : ∀ a b m : BitVec 32, (a ||| b) <<< 2 &&& m = (a <<< 2 &&& m) ||| (b <<< 2 &&& m) := fun a b m => by
    rw [BitVec.shiftLeft_or_distrib]
    ext i hi
    simp only [BitVec.getElem_and, BitVec.getElem_or, Bool.and_or_distrib_right]
  rw [h1, h2, cw0, cw4, cw2, cw6, or4]
  rfl

abbrev sgnWord (s : Bool) : BitVec 32 := if s then 32768#32 else 0#32
/-- The mask of one byte from the signs of its two nibbles. -/
def maskB (lo hi : Bool) : BitVec 8 := (if hi then 128#8 else 0#8) ||| (if lo then 8#8 else 0#8)

theorem mask_eq : ∀ s0 s1 s2 s3 s4 s5 s6 s7 : Bool,
    (signW (sgnWord s1) (sgnWord s3) (sgnWord s5) (sgnWord s7) &&& 2155905152#32) ||| (signW (sgnWord s0) (sgnWord s2) (sgnWord s4) (sgnWord s6) >>> 4 &&& 134744072#32)
      = maskB s6 s7 ++ maskB s4 s5 ++ maskB s2 s3 ++ maskB s0 s1 := by decide +kernel

/-- A nibble from its code and sign. -/
def nibN (c : ℕ) (s : Bool) : ℕ := if s = true ∧ c ≠ 0 then c + 8 else c

theorem byte_eq : ∀ (e o : Fin 8) (s t : Bool), BitVec.ofNat 8 (e.val + 16 * o.val) + (BitVec.ofNat 8 ((e.val + 7) + 16 * (o.val + 7)) &&& maskB s t)
    = BitVec.ofNat 8 (nibN e.val s + 16 * nibN o.val t) := by decide +kernel
theorem byte_and : ∀ (e o : Fin 8) (s t : Bool), BitVec.ofNat 8 (e.val + 16 * o.val) &&& (BitVec.ofNat 8 ((e.val + 7) + 16 * (o.val + 7)) &&& maskB s t) = 0#8 := by decide +kernel
theorem byte_or : ∀ (e o : Fin 8) (s t : Bool), BitVec.ofNat 8 (e.val + 16 * o.val) ||| (BitVec.ofNat 8 ((e.val + 7) + 16 * (o.val + 7)) &&& maskB s t)
    = BitVec.ofNat 8 (nibN e.val s + 16 * nibN o.val t) := by decide +kernel

theorem word4_and (a b : Fin 4 → BitVec 8) : word4 a &&& word4 b = word4 fun q => a q &&& b q := by
  unfold word4
  rw [BitVec.and_append, BitVec.and_append, BitVec.and_append]
theorem word4_or (a b : Fin 4 → BitVec 8) : word4 a ||| word4 b = word4 fun q => a q ||| b q := by
  unfold word4
  rw [BitVec.or_append, BitVec.or_append, BitVec.or_append]

theorem val4_add (e : Fin 4 → ℕ) (k : ℕ) : (val4 fun q => k + e q) = val4 e + k * 16843009 := by unfold val4; dsimp only; omega
theorem val4_lin (e o : Fin 4 → ℕ) : (val4 fun q => e q + 16 * o q) = val4 e + 16 * val4 o := by unfold val4; dsimp only; omega
theorem val4_lin7 (e o : Fin 4 → ℕ) : (val4 fun q => (e q + 7) + 16 * (o q + 7)) = val4 e + 16 * val4 o + 2004318071 := by unfold val4; dsimp only; omega

theorem ofNat_shl4 (a : ℕ) : BitVec.ofNat 32 a <<< 4 = BitVec.ofNat 32 (16 * a) := by
  rw [BitVec.shiftLeft_eq_mul_twoPow, BitVec.mul_comm]
  exact (BitVec.ofNat_mul 16 a).symm
theorem ofNat_wrap (a b k : ℕ) (h : a = b + k * 4294967296) : BitVec.ofNat 32 a = BitVec.ofNat 32 b := by
  subst h
  apply BitVec.eq_of_toNat_eq
  rw [BitVec.toNat_ofNat, BitVec.toNat_ofNat]
  exact Nat.add_mul_mod_self_right b k 4294967296

theorem sum_code (E O : ℕ) : BitVec.ofNat 32 (E + 129 * 16843009) + BitVec.ofNat 32 (O + 129 * 16843009) <<< 4 - 2576980369#32 = BitVec.ofNat 32 (E + 16 * O) := by
  rw [ofNat_shl4, BitVec.sub_eq_add_neg, show -(2576980369#32) = BitVec.ofNat 32 1717986927 from by decide +kernel, ← BitVec.ofNat_add, ← BitVec.ofNat_add]
  exact ofNat_wrap _ _ 9 (by omega)

theorem sum_some (E O : ℕ) : BitVec.ofNat 32 (E + 129 * 16843009) + BitVec.ofNat 32 (O + 129 * 16843009) <<< 4 + 3722304998#32 = BitVec.ofNat 32 (E + 16 * O + 2004318071) := by
  rw [ofNat_shl4, ← BitVec.ofNat_add, ← BitVec.ofNat_add]
  exact ofNat_wrap _ _ 9 (by omega)

/-- Four low and four high nibbles, with their signs, from the two sums. -/
theorem nib_sum (e o : Fin 4 → Fin 8) (s t : Fin 4 → Bool) :
    BitVec.ofNat 32 (val4 fun q => 129 + (e q).val) + BitVec.ofNat 32 (val4 fun q => 129 + (o q).val) <<< 4 - 2576980369#32
        + ((BitVec.ofNat 32 (val4 fun q => 129 + (e q).val) + BitVec.ofNat 32 (val4 fun q => 129 + (o q).val) <<< 4 + 3722304998#32) &&& word4 fun q => maskB (s q) (t q))
      = word4 fun q => BitVec.ofNat 8 (nibN (e q).val (s q) + 16 * nibN (o q).val (t q)) := by
  have h7 : ∀ k : Fin 8, k.val < 8 := fun k => k.isLt
  rw [val4_add (fun q => (e q).val), val4_add (fun q => (o q).val), sum_code, sum_some, ← val4_lin7, ← val4_lin,
    word4_val _ (fun q => by have := h7 (e q); have := h7 (o q); omega), word4_val _ (fun q => by have := h7 (e q); have := h7 (o q); omega), word4_and,
    BitVec.add_eq_or_of_and_eq_zero]
  · rw [word4_or]
    exact congrArg word4 (funext fun q => byte_or _ _ _ _)
  · rw [word4_and]
    exact (congrArg word4 (funext fun q => byte_and _ _ _ _)).trans (by decide +kernel)

/-- The packed word of eight codes and signs. -/
theorem nibW_eq (c : Fin 8 → Fin 8) (r : Fin 8 → Fin 64) (s : Fin 8 → Bool) :
    nibW (codeW (codeWord (c 0) (r 0)) (codeWord (c 2) (r 2)) (codeWord (c 4) (r 4)) (codeWord (c 6) (r 6)))
        (codeW (codeWord (c 1) (r 1)) (codeWord (c 3) (r 3)) (codeWord (c 5) (r 5)) (codeWord (c 7) (r 7)))
        (signW (sgnWord (s 0)) (sgnWord (s 2)) (sgnWord (s 4)) (sgnWord (s 6)))
        (signW (sgnWord (s 1)) (sgnWord (s 3)) (sgnWord (s 5)) (sgnWord (s 7)))
      = word4 fun q => BitVec.ofNat 8 (nibN (c ⟨2 * q.val, by omega⟩).val (s ⟨2 * q.val, by omega⟩) + 16 * nibN (c ⟨2 * q.val + 1, by omega⟩).val (s ⟨2 * q.val + 1, by omega⟩)) := by
  have hE : codeW (codeWord (c 0) (r 0)) (codeWord (c 2) (r 2)) (codeWord (c 4) (r 4)) (codeWord (c 6) (r 6)) = BitVec.ofNat 32 (val4 fun q => 129 + (c ⟨2 * q.val, by omega⟩).val) :=
    codeW_eq (fun q => c ⟨2 * q.val, by omega⟩) (fun q => r ⟨2 * q.val, by omega⟩)
  have hO : codeW (codeWord (c 1) (r 1)) (codeWord (c 3) (r 3)) (codeWord (c 5) (r 5)) (codeWord (c 7) (r 7)) = BitVec.ofNat 32 (val4 fun q => 129 + (c ⟨2 * q.val + 1, by omega⟩).val) :=
    codeW_eq (fun q => c ⟨2 * q.val + 1, by omega⟩) (fun q => r ⟨2 * q.val + 1, by omega⟩)
  have hM : (signW (sgnWord (s 1)) (sgnWord (s 3)) (sgnWord (s 5)) (sgnWord (s 7)) &&& 2155905152#32) ||| (signW (sgnWord (s 0)) (sgnWord (s 2)) (sgnWord (s 4)) (sgnWord (s 6)) >>> 4 &&& 134744072#32)
      = word4 fun q => maskB (s ⟨2 * q.val, by omega⟩) (s ⟨2 * q.val + 1, by omega⟩) := mask_eq (s 0) (s 1) (s 2) (s 3) (s 4) (s 5) (s 6) (s 7)
  unfold nibW
  rw [hM, hE, hO]
  exact nib_sum (fun q => c ⟨2 * q.val, by omega⟩) (fun q => c ⟨2 * q.val + 1, by omega⟩) (fun q => s ⟨2 * q.val, by omega⟩) (fun q => s ⟨2 * q.val + 1, by omega⟩)

/-- A byte of a word. -/
theorem word4_bit (b : Fin 4 → BitVec 8) (q : Fin 4) (i : ℕ) (hi : i < 8) : (word4 b).getLsbD (8 * q.val + i) = (b q).getLsbD i := by
  unfold word4
  simp only [BitVec.getLsbD_append]
  match q with
  | ⟨0, _⟩ => interval_cases i <;> simp
  | ⟨1, _⟩ => interval_cases i <;> simp
  | ⟨2, _⟩ => interval_cases i <;> simp
  | ⟨3, _⟩ => interval_cases i <;> simp
end Cert.Quant
end
-- ==== Proof.KHalf.lean ====
/- A block's words, element by element. -/
module

public import Idealize.ShloMosaic.Lib.ValueLayout
public import Idealize.ShloMosaic.Lib.BitcastPair
public import proofs.«01_k».proof.Proof.Pack

@[expose] public section

noncomputable section

namespace Cert.Quant

open Cert.KernelIdeal Cert.KernelIdeal.Gen Idealize.ShloMosaic Idealize.ShloMosaic.TcCoe Idealize.SL.Sem

theorem halfV_apply (t s : Fin 8 → IVec S8x128 32) (j : S8x128.Idx) :
    halfV t s j = nibW (codeW (t 0 j) (t 2 j) (t 4 j) (t 6 j)) (codeW (t 1 j) (t 3 j) (t 5 j) (t 7 j))
      (signW (s 0 j) (s 2 j) (s 4 j) (s 6 j)) (signW (s 1 j) (s 3 j) (s 5 j) (s 7 j)) := by
  unfold halfV
  rw [shapeCast_apply _ shapeCasts_S8x128_S8x128 j j rfl]
  rfl

theorem codeWord_of (t : BitVec 32) (c : ℕ) (hc : c ≤ 7) (h : t.toNat / 64 = 129 + c) : ∃ r : Fin 64, t = codeWord ⟨c, by omega⟩ r := by
  refine ⟨⟨t.toNat % 64, Nat.mod_lt _ (by decide)⟩, ?_⟩
  apply BitVec.eq_of_toNat_eq
  have := t.isLt
  show t.toNat = (BitVec.ofNat 32 (64 * (129 + c) + t.toNat % 64)).toNat
  rw [BitVec.toNat_ofNat]
  omega

theorem nibN_eq (w t : EReal) (N : ℕ) : nibN (codeE w t N) (decide (w < 0)) = nib w t N := by
  unfold nibN nib
  simp only [decide_eq_true_eq]

section
variable (sg : Fin 16 → EReal) (X : Fin 20 → Vec Ideal S1x128x256 .bf16) (Y : Fin 20 → Vec Ideal S1x256x128 .i8) (z : EReal) (b : Fin 20)

/-- The nibble of a block's element. -/
def nibK (i : Fin 16) (n : Fin 8) (l : Fin 128) : ℕ := nib (rowB sg X b i n l) (invW sg X z b n l) (byteB Y b i n l)

theorem halfB_apply (e : Fin 2) (n : Fin 8) (l : Fin 128) :
    halfB (rotV (F := Ideal) sg) permV X Y z b e (ix2 n l)
      = word4 fun q => BitVec.ofNat 8 (nibK sg X Y z b ⟨8 * e.val + 2 * q.val, by omega⟩ n l + 16 * nibK sg X Y z b ⟨8 * e.val + (2 * q.val + 1), by omega⟩ n l) := by
  have hle : ∀ i : Fin 16, codeE (rowB sg X b i n l) (invW sg X z b n l) (byteB Y b i n l) ≤ 7 := fun i => codeE_le _ _ (invE_nonneg _) _
  have ht : ∀ k : Fin 8, ∃ r : Fin 64, codeB (rotV (F := Ideal) sg) permV X Y z b ⟨8 * e.val + k.val, by omega⟩ (ix2 n l)
      = codeWord ⟨codeE (rowB sg X b ⟨8 * e.val + k.val, by omega⟩ n l) (invW sg X z b n l) (byteB Y b ⟨8 * e.val + k.val, by omega⟩ n l), by have := hle ⟨8 * e.val + k.val, by omega⟩; omega⟩ r := by
    intro k
    refine codeWord_of _ _ (hle _) ?_
    exact (codeB_div sg X Y z b ⟨8 * e.val + k.val, by omega⟩ n l).1
  have hs : ∀ k : Fin 8, sgnB (rotV (F := Ideal) sg) X b ⟨8 * e.val + k.val, by omega⟩ (ix2 n l)
      = sgnWord (decide (rowB sg X b ⟨8 * e.val + k.val, by omega⟩ n l < 0)) := by
    intro k
    refine (sgnB_apply sg X b ⟨8 * e.val + k.val, by omega⟩ n l).trans ?_
    unfold sgnWord
    simp only [decide_eq_true_eq]
  choose r hr using ht
  unfold halfB
  rw [halfV_apply]
  simp only [hr, hs]
  refine (nibW_eq (fun k => ⟨codeE (rowB sg X b ⟨8 * e.val + k.val, by omega⟩ n l) (invW sg X z b n l) (byteB Y b ⟨8 * e.val + k.val, by omega⟩ n l), by have := hle ⟨8 * e.val + k.val, by omega⟩; omega⟩) r
    (fun k => decide (rowB sg X b ⟨8 * e.val + k.val, by omega⟩ n l < 0))).trans ?_
  dsimp only
  simp only [nibN_eq]
  rfl

/-- A byte of sixteen rows of words. -/
theorem bytesV_apply (V : Vec Ideal S16x128 .i32) (r : Fin 16) (q : Fin 4) (l : Fin 128) (w : Fin 4 → BitVec 8) (h : V (ix2 r l) = word4 w) :
    bytesV (F := Ideal) V (ix3 0 ⟨4 * r.val + q.val, by omega⟩ l) = w q := by
  unfold bytesV
  refine (ValueIdx.shapeCast_ab_1ab_apply _ shapeCasts_S64x128_S1x64x128 0 ⟨4 * r.val + q.val, by omega⟩ l).trans ?_
  apply BitVec.eq_of_getLsbD_eq
  intro i hi
  refine (bitcast_getLsbD _ _ _ _ hi (by decide)).trans ?_
  have hr : Shape.row S64x128 (ix2 (n0 := 64) (n1 := 128) ⟨4 * r.val + q.val, by omega⟩ l) = 4 * r.val + q.val := rfl
  have h1 : (Shape.row S64x128 (ix2 (n0 := 64) (n1 := 128) ⟨4 * r.val + q.val, by omega⟩ l) * 8 + i) / 32 = r.val := by rw [hr]; omega
  have h2 : (Shape.row S64x128 (ix2 (n0 := 64) (n1 := 128) ⟨4 * r.val + q.val, by omega⟩ l) * 8 + i) % 32 = 8 * q.val + i := by rw [hr]; omega
  refine (congrArg (BitVec.getLsbD _) h2).trans ?_
  rw [← word4_bit w q i hi, ← h]
  refine congrArg (fun k => BitVec.getLsbD (V k) _) ?_
  funext a
  apply Fin.ext
  match a with
  | 0 => exact (Shape.Bitcasts.srcIdx_row _ _ _ _ 0 rfl).trans h1
  | 1 => exact (Shape.Bitcasts.srcIdx_other _ _ _ _ 1 (by decide))
end
end Cert.Quant
end
-- ==== Proof.KLocal.lean ====
/- One grid point's results as functions of its input blocks. -/
module

public import proofs.«01_k».proof.Proof.KHalf
public import Idealize.ShloMosaic.Lib.Pipeline.ValueKit

@[expose] public section

noncomputable section

namespace Cert.Quant

open Cert.KernelIdeal Cert.KernelIdeal.Gen Idealize.ShloMosaic Idealize.ShloMosaic.TcCoe Idealize.SL.Sem

section
variable (sg : Fin 16 → EReal) (x2 : S1x640x512.Idx → EReal) (x3 : S1x512x640.Idx → BitVec 8) (z : EReal)

/-- The rotated value of element `i` of the sixteen-row group `n` in lane `l` of a grid point's block. -/
def rowL (n : Fin 40) (i : Fin 16) (l : Fin 512) : EReal := ∑ j : Fin 16, rotE sg i.val j * x2 (ix3 0 ⟨16 * n.val + j.val, by omega⟩ l)
/-- The group's largest magnitude. -/
def amL (n : Fin 40) (l : Fin 512) : EReal := Finset.univ.sup fun i : Fin 16 => absE (rowL sg x2 n i l)
/-- The reciprocal the group is scaled with. -/
def invL (n : Fin 40) (l : Fin 512) : EReal := invE (sbE (amL sg x2 n l) (tsE z) * tsE z)
/-- The nibble of an element. -/
def nibL (n : Fin 40) (i : Fin 16) (l : Fin 512) : ℕ :=
  nib (rowL sg x2 n i l) (invL sg x2 z n l) (x3 (ix3 0 l ⟨16 * n.val + i.val, by omega⟩)).toNat

def out4L : S1x40x512.Idx → EReal := fun i => amL sg x2 (i 1) (i 2)
def out5L : S1x320x512.Idx → BitVec 8 := fun i =>
  let k : Fin 320 := i 1
  BitVec.ofNat 8 (nibL sg x2 x3 z ⟨k.val / 8, by omega⟩ ⟨2 * (k.val % 8), by omega⟩ (i 2)
    + 16 * nibL sg x2 x3 z ⟨k.val / 8, by omega⟩ ⟨2 * (k.val % 8) + 1, by omega⟩ (i 2))
def out6L : S1x40x512.Idx → EReal := fun i => sbE (amL sg x2 (i 1) (i 2)) (tsE z)

/-- The group and the lane of the whole block that block `b` holds at its own `n` and `l`. -/
def grpB (b : Fin 20) (n : Fin 8) : Fin 40 := ⟨8 * bg b + n.val, by have : bg b ≤ 4 := (by revert b; decide); omega⟩
def lanB (b : Fin 20) (l : Fin 128) : Fin 512 :=
  ⟨256 * bc b + 128 * bh b + l.val, by have : bc b ≤ 1 := (by revert b; decide); have : bh b ≤ 1 := (by revert b; decide); omega⟩

variable (X : Fin 20 → Vec Ideal S1x128x256 .bf16) (Y : Fin 20 → Vec Ideal S1x256x128 .i8)
  (hX : ∀ (b : Fin 20) (i : S1x128x256.Idx) (k : S1x640x512.Idx) (_ : (k 1).val = 128 * bg b + (i 1).val) (_ : (k 2).val = 256 * bc b + (i 2).val), X b i = x2 k)
  (hY : ∀ (b : Fin 20) (i : S1x256x128.Idx) (k : S1x512x640.Idx) (_ : (k 1).val = 256 * bc b + (i 1).val) (_ : (k 2).val = 128 * bg b + (i 2).val), Y b i = x3 k)

include hX in
theorem rowB_eq (b : Fin 20) (i : Fin 16) (n : Fin 8) (l : Fin 128) : rowB sg X b i n l = rowL sg x2 (grpB b n) i (lanB b l) := by
  unfold rowB rowL
  refine Finset.sum_congr rfl fun j _ => ?_
  refine congrArg _ (hX b _ _ ?_ ?_)
  · show 16 * (8 * bg b + n.val) + j.val = 128 * bg b + (16 * n.val + j.val); omega
  · show 256 * bc b + 128 * bh b + l.val = 256 * bc b + (128 * bh b + l.val); omega

include hX in
theorem amB_eq (b : Fin 20) (n : Fin 8) (l : Fin 128) : amB sg X b n l = amL sg x2 (grpB b n) (lanB b l) := by
  unfold amB amL
  simp only [rowB_eq sg x2 X hX]

include hX hY in
theorem nibK_eq (b : Fin 20) (i : Fin 16) (n : Fin 8) (l : Fin 128) : nibK sg X Y z b i n l = nibL sg x2 x3 z (grpB b n) i (lanB b l) := by
  unfold nibK nibL invW invL
  rw [rowB_eq sg x2 X hX, amB_eq sg x2 X hX]
  unfold byteB
  rw [hY b _ (ix3 0 (lanB b l) ⟨16 * (grpB b n).val + i.val, by omega⟩)
    (by show 256 * bc b + 128 * bh b + l.val = 256 * bc b + (128 * bh b + l.val); omega)
    (by show 16 * (8 * bg b + n.val) + i.val = 128 * bg b + (16 * n.val + i.val); omega)]

theorem idx3_eq {a b : ℕ} (x : (⟨3, ![1, a, b]⟩ : Shape).Idx) : x = ix3 (n0 := 1) (n1 := a) (n2 := b) 0 (x 1) (x 2) := by
  funext c
  match c with
  | 0 => exact Subsingleton.elim (α := Fin 1) _ _
  | 1 => rfl
  | 2 => rfl

/-- A stored block of two axes under a leading unit axis. -/
theorem unit_apply {α : Type} {a b : ℕ} (v : (⟨2, ![a, b]⟩ : Shape).Idx → α) (h : (⟨2, ![a, b]⟩ : Shape).ShapeCasts ⟨3, ![1, a, b]⟩)
    (x : (⟨3, ![1, a, b]⟩ : Shape).Idx) : shapeCast ⟨3, ![1, a, b]⟩ v h x = v (ix2 (n0 := a) (n1 := b) (x 1) (x 2)) := by
  refine (congrArg _ (idx3_eq x)).trans ?_
  exact ValueIdx.shapeCast_ab_1ab_apply v h 0 (x 1) (x 2)

include hX in
theorem amaxVal_eq (b : Fin 20) (x : S1x8x128.Idx) (k : S1x40x512.Idx) (h1 : (k 1).val = 8 * bg b + (x 1).val)
    (h2 : (k 2).val = 256 * bc b + 128 * bh b + (x 2).val) :
    shapeCast S1x8x128 (amaxB (rotV (F := Ideal) sg) X b) shapeCasts_S8x128_S1x8x128 x = out4L sg x2 k := by
  refine (unit_apply _ shapeCasts_S8x128_S1x8x128 x).trans ?_
  refine (amaxB_apply sg X b (x 1) (x 2)).trans ?_
  refine (amB_eq sg x2 X hX b (x 1) (x 2)).trans ?_
  unfold out4L
  exact congrArg₂ (amL sg x2) (Fin.ext h1.symm) (Fin.ext h2.symm)

include hX in
theorem amaxPieces_eq (bs : List (Fin 20)) (p : View.Piece (Elt Ideal) S1x40x512 .f32) (hp : p ∈ bs.map (amaxPiece (rotV (F := Ideal) sg) X))
    (x : p.1.shape.Idx) : p.2 x = out4L sg x2 (p.1.emb x) := by
  obtain ⟨b, _, rfl⟩ := List.mem_map.mp hp
  exact amaxVal_eq sg x2 X hX b x _ (congrArg (8 * bg b + ·) (Nat.one_mul _)) (congrArg (256 * bc b + 128 * bh b + ·) (Nat.one_mul _))

include hX hY in
theorem half_eq (b : Fin 20) (n : Fin 8) (e : Fin 2) (q : Fin 4) (l : Fin 128) (k : S1x320x512.Idx)
    (h1 : (k 1).val = 8 * (8 * bg b + n.val) + 4 * e.val + q.val) (h2 : (k 2).val = 256 * bc b + 128 * bh b + l.val) :
    BitVec.ofNat 8 (nibK sg X Y z b ⟨8 * e.val + 2 * q.val, by omega⟩ n l + 16 * nibK sg X Y z b ⟨8 * e.val + (2 * q.val + 1), by omega⟩ n l)
      = out5L sg x2 x3 z k := by
  rw [nibK_eq sg x2 x3 z X Y hX hY, nibK_eq sg x2 x3 z X Y hX hY]
  unfold out5L
  dsimp only
  have e0 : grpB b n = ⟨(k 1).val / 8, by have := (k 1).isLt; change (k 1).val < 320 at this; omega⟩ := Fin.ext (by show 8 * bg b + n.val = (k 1).val / 8; omega)
  have e1 : lanB b l = k 2 := Fin.ext h2.symm
  have e2 : (⟨8 * e.val + 2 * q.val, by omega⟩ : Fin 16) = ⟨2 * ((k 1).val % 8), by omega⟩ := Fin.ext (by show 8 * e.val + 2 * q.val = 2 * ((k 1).val % 8); omega)
  have e3 : (⟨8 * e.val + (2 * q.val + 1), by omega⟩ : Fin 16) = ⟨2 * ((k 1).val % 8) + 1, by omega⟩ :=
    Fin.ext (by show 8 * e.val + (2 * q.val + 1) = 2 * ((k 1).val % 8) + 1; omega)
  rw [e0, e1, e2, e3]

/-- Sixteen rows of the word scratch, read back right after the block's two stores. -/
theorem words_read {sig : RefSig} {κ : Kind} {sp : Space} (v : View sig κ sp S80x128 .i32) (R : Vec Ideal S128x128 .bf16)
    (P : FVec Ideal S128x128 .bf16) (b : Fin 20) (bs : List (Fin 20)) (e : Fin 2) (n : Fin 8) (l : Fin 128) (r : Fin 16) (hr : r.val = 2 * n.val + e.val) :
    v.readCov (wordPieces R P X Y z (b :: bs)) (Rect.unit (s := S80x128) ![16 * bg b, 0] S16x128.size (inb_word b)).toLoadRect (ix2 r l)
      = halfB R P X Y z b e (ix2 n l) := by
  rw [View.readCov_eq_canon']
  show View.canon (wordPieces R P X Y z (b :: bs)) ((Rect.unit (s := S80x128) ![16 * bg b, 0] S16x128.size (inb_word b)).toLoadRect.idx (ix2 r l)) = _
  have hy : ∀ e' : Fin 2, ∀ k : S80x128.Idx, (k 0).val = 16 * bg b + e'.val + 2 * n.val → (k 1).val = l.val →
      (halfPiece R P X Y z b e').1.emb (ix2 (n0 := 8) (n1 := 128) n l) = k := by
    intro e' k h0 h1
    funext a
    apply Fin.ext
    match a with
    | 0 => exact h0.symm
    | 1 => exact (by show 0 + 1 * l.val = (k 1).val; omega)
  generalize hk : (Rect.unit (s := S80x128) ![16 * bg b, 0] S16x128.size (inb_word b)).toLoadRect.idx (ix2 r l) = k
  have h0 : (k 0).val = 16 * bg b + r.val := by rw [← hk]; exact congrArg (16 * bg b + ·) (Nat.one_mul _)
  have h1 : (k 1).val = l.val := by rw [← hk]; exact (by show 0 + 1 * l.val = l.val; omega)
  match e with
  | 1 =>
    have := hy 1 k (by rw [h0, hr]; show _ + (_ + 1) = _ + 1 + _; omega) h1
    rw [← this]
    exact View.canon_cons_emb _ _ _ _
  | 0 =>
    have := hy 0 k (by rw [h0, hr]; show _ + (_ + 0) = _ + 0 + _; omega) h1
    refine (View.canon_cons_of_not_mem _ _ ?_).trans ?_
    · intro hm
      obtain ⟨j, hj⟩ := LoadRect.exists_idx_of_mem _ hm
      have hj' : 16 * bg b + 1 + 2 * (j 0).val = (k 0).val := congrArg (fun y : S80x128.Idx => (y 0).val) hj
      have hr' : r.val = 2 * n.val + 0 := hr
      omega
    · rw [← this]
      exact View.canon_cons_emb _ _ _ _

include hX hY in
theorem codeVal_eq {sig : RefSig} {κ : Kind} {sp : Space} (v : View sig κ sp S80x128 .i32) (b : Fin 20) (bs : List (Fin 20))
    (x : S1x64x128.Idx) (k : S1x320x512.Idx) (h1 : (k 1).val = 64 * bg b + (x 1).val) (h2 : (k 2).val = 256 * bc b + 128 * bh b + (x 2).val) :
    bytesV (F := Ideal) (v.readCov (wordPieces (rotV (F := Ideal) sg) permV X Y z (b :: bs))
      (Rect.unit (s := S80x128) ![16 * bg b, 0] S16x128.size (inb_word b)).toLoadRect) x = out5L sg x2 x3 z k := by
  have hx1 : (x 1).val < 64 := (x 1).isLt
  have hx2 : (x 2).val < 128 := (x 2).isLt
  have hx := idx3_eq (a := 64) (b := 128) x
  obtain ⟨n, hn⟩ : ∃ n : Fin 8, n.val = (x 1).val / 8 := ⟨⟨(x 1).val / 8, by omega⟩, rfl⟩
  obtain ⟨e, he⟩ : ∃ e : Fin 2, e.val = (x 1).val / 4 % 2 := ⟨⟨(x 1).val / 4 % 2, by omega⟩, rfl⟩
  obtain ⟨q, hq⟩ : ∃ q : Fin 4, q.val = (x 1).val % 4 := ⟨⟨(x 1).val % 4, by omega⟩, rfl⟩
  obtain ⟨l, hl⟩ : ∃ l : Fin 128, l.val = (x 2).val := ⟨⟨(x 2).val, hx2⟩, rfl⟩
  obtain ⟨r, hr⟩ : ∃ r : Fin 16, r.val = 2 * n.val + e.val := ⟨⟨2 * n.val + e.val, by omega⟩, rfl⟩
  have hx' : x = ix3 (n0 := 1) (n1 := 64) (n2 := 128) 0 ⟨4 * r.val + q.val, by omega⟩ l := by
    refine hx.trans ?_
    have a1 : (x 1 : Fin 64) = ⟨4 * r.val + q.val, by omega⟩ := Fin.ext (by show (x 1).val = 4 * r.val + q.val; omega)
    have a2 : (x 2 : Fin 128) = l := Fin.ext hl.symm
    exact congrArg₂ (ix3 (n0 := 1) (n1 := 64) (n2 := 128) 0) a1 a2
  rw [hx']
  refine (bytesV_apply _ r q l _ ((words_read z X Y v (rotV (F := Ideal) sg) permV b bs e n l r hr).trans (halfB_apply sg X Y z b e n l))).trans ?_
  exact half_eq sg x2 x3 z X Y hX hY b n e q l k (by omega) (by omega)

include hX hY in
theorem codePieces_eq {sig : RefSig} {κ : Kind} {sp : Space} (v : View sig κ sp S80x128 .i32) :
    ∀ (bs : List (Fin 20)) (p : View.Piece (Elt Ideal) S1x320x512 .i8) (_ : p ∈ codePieces (rotV (F := Ideal) sg) permV X Y z v bs) (x : p.1.shape.Idx),
      p.2 x = out5L sg x2 x3 z (p.1.emb x)
  | [], p, hp, x => absurd hp (by simp [codePieces])
  | b :: bs, p, hp, x => by
    rcases List.mem_cons.mp hp with rfl | hp
    · exact codeVal_eq sg x2 x3 z X Y hX hY v b bs x _ (congrArg (64 * bg b + ·) (Nat.one_mul _)) (congrArg (256 * bc b + 128 * bh b + ·) (Nat.one_mul _))
    · exact codePieces_eq v bs p hp x

omit hX in
theorem stack5_apply (w : Fin 5 → FVec Ideal S8x128 .f32) (j : S40x128.Idx) (g : Fin 5) (n : Fin 8) (hg : g.val = (j 0).val / 8) (hn : n.val = (j 0).val % 8) :
    truncf .fp8e4m3 (concatenate S40x128 0 [⟨S8x128, w 0⟩, ⟨S8x128, w 1⟩, ⟨S8x128, w 2⟩, ⟨S8x128, w 3⟩, ⟨S8x128, w 4⟩]
      concatenates_S8x128_S8x128_S8x128_S8x128_S8x128_S40x128_d0) bitsLt_fp8e4m3_f32 j = w g (ix2 n (j 1)) := by
  refine Eq.trans (b := concatenate S40x128 0 [⟨S8x128, w 0⟩, ⟨S8x128, w 1⟩, ⟨S8x128, w 2⟩, ⟨S8x128, w 3⟩, ⟨S8x128, w 4⟩]
      concatenates_S8x128_S8x128_S8x128_S8x128_S8x128_S40x128_d0 j) ?_ ?_
  · generalize concatenate S40x128 0 [⟨S8x128, w 0⟩, ⟨S8x128, w 1⟩, ⟨S8x128, w 2⟩, ⟨S8x128, w 3⟩, ⟨S8x128, w 4⟩]
      concatenates_S8x128_S8x128_S8x128_S8x128_S8x128_S40x128_d0 = v
    rfl
  · exact concatenate_ofFn_apply (s₁ := S8x128) 0 w concatenates_S8x128_S8x128_S8x128_S8x128_S8x128_S40x128_d0 rfl 8 rfl _ g
      hg.symm (ix2 n (j 1)) hn (fun b hb => by match b with | ⟨0, _⟩ => exact absurd rfl hb | ⟨1, _⟩ => rfl)

include hX in
theorem sbVal_eq (j : Fin 4) (x : S1x40x128.Idx) (k : S1x40x512.Idx) (h1 : (k 1).val = (x 1).val) (h2 : (k 2).val = 128 * j.val + (x 2).val) :
    (sbPiece (rotV (F := Ideal) sg) X z j).2 x = out6L sg x2 z k := by
  have hx1 : (x 1).val < 40 := (x 1).isLt
  unfold sbPiece
  dsimp only
  refine (unit_apply _ shapeCasts_S40x128_S1x40x128 x).trans ?_
  obtain ⟨g, hg⟩ : ∃ g : Fin 5, g.val = (x 1).val / 8 := ⟨⟨(x 1).val / 8, by omega⟩, rfl⟩
  obtain ⟨n, hn⟩ : ∃ n : Fin 8, n.val = (x 1).val % 8 := ⟨⟨(x 1).val % 8, by omega⟩, rfl⟩
  refine Eq.trans (b := sbfB (rotV (F := Ideal) sg) X z (blkOf j g) (ix2 (n0 := 8) (n1 := 128) n (x 2))) ?_ ?_
  · exact stack5_apply (fun g : Fin 5 => sbfB (rotV (F := Ideal) sg) X z (blkOf j g)) (ix2 (n0 := 40) (n1 := 128) (x 1) (x 2)) g n hg hn
  · refine (sbfB_apply sg X z (blkOf j g) n (x 2)).trans ?_
    refine (congrArg (fun a => sbE a (tsE z)) (amB_eq sg x2 X hX (blkOf j g) n (x 2))).trans ?_
    unfold out6L
    refine congrArg₂ (fun a b => sbE (amL sg x2 a b) (tsE z)) (Fin.ext ?_) (Fin.ext ?_)
    · show 8 * ((10 * (j.val / 2) + 2 * g.val + j.val % 2) % 10 / 2) + n.val = (k 1).val
      omega
    · show 256 * ((10 * (j.val / 2) + 2 * g.val + j.val % 2) / 10) + 128 * ((10 * (j.val / 2) + 2 * g.val + j.val % 2) % 2) + (x 2).val = (k 2).val
      omega
end
end Cert.Quant
end
-- ==== Proof.KOut.lean ====
/- What one grid point leaves in the four outputs and in the two kept matrices. -/
module

public import proofs.«01_k».proof.Proof.KLocal
public import proofs.«01_k».proof.Proof.Gen.KernelIdeal.Frame

@[expose] public section

noncomputable section

namespace Cert.Quant

open Cert.KernelIdeal Cert.KernelIdeal.Gen Idealize.ShloMosaic Idealize.ShloMosaic.TcCoe Idealize.SL.Sem

/-- A whole square read back. -/
theorem whole_read {sp : Space} (M : Memref sig .tc sp S128x128 .bf16) (hM : M.IsWhole) (xs : Vec Ideal S128x128 .bf16) :
    View.readAt (Elt Ideal) M.view (Rect.unit ![0, 0] S128x128.size inb_S128x128_S128x128_0_0).toLoadRect (hM.unread xs) = xs := by
  rw [View.readAt_eq_ld, hM.read_unread]
  funext j
  pointwise

theorem loadX_eq (arg4 : Memref sig .tc .vmem S1x640x512 .bf16) (harg4 : arg4.IsWhole) (x2 : Vec Ideal S1x640x512 .bf16)
    (b : Fin 20) (i : S1x128x256.Idx) (k : S1x640x512.Idx) (h1 : (k 1).val = 128 * bg b + (i 1).val) (h2 : (k 2).val = 256 * bc b + (i 2).val) :
    loadX arg4 harg4 x2 b i = x2 k := by
  unfold loadX
  rw [View.readAt_eq_ld, harg4.read_unread]
  refine congrArg x2 (a₁ := (Rect.unit (s := S1x640x512) ![0, 128 * bg b, 256 * bc b] S1x128x256.size (inb_x b)).emb i) ?_
  funext a
  match a with
  | 0 => exact Subsingleton.elim (α := Fin 1) _ _
  | 1 => exact Fin.ext (h1.trans (congrArg (128 * bg b + ·) (Nat.one_mul _).symm)).symm
  | 2 => exact Fin.ext (h2.trans (congrArg (256 * bc b + ·) (Nat.one_mul _).symm)).symm

theorem loadY_eq (arg5 : Memref sig .tc .vmem S1x512x640 .i8) (harg5 : arg5.IsWhole) (x3 : Vec Ideal S1x512x640 .i8)
    (b : Fin 20) (i : S1x256x128.Idx) (k : S1x512x640.Idx) (h1 : (k 1).val = 256 * bc b + (i 1).val) (h2 : (k 2).val = 128 * bg b + (i 2).val) :
    loadY arg5 harg5 x3 b i = x3 k := by
  unfold loadY
  rw [View.readAt_eq_ld, harg5.read_unread]
  refine congrArg x3 (a₁ := (Rect.unit (s := S1x512x640) ![0, 256 * bc b, 128 * bg b] S1x256x128.size (inb_p b)).emb i) ?_
  funext a
  match a with
  | 0 => exact Subsingleton.elim (α := Fin 1) _ _
  | 1 => exact Fin.ext (h1.trans (congrArg (256 * bc b + ·) (Nat.one_mul _).symm)).symm
  | 2 => exact Fin.ext (h2.trans (congrArg (128 * bg b + ·) (Nat.one_mul _).symm)).symm

theorem first1 : (Shape.Idx.first pos_S1 : S1.Idx) = ix1 0 := by
  funext a
  match a with
  | 0 => exact Subsingleton.elim (α := Fin 1) _ _

theorem zA_eq (c : Dev nD) (arg3 : Memref sig .tc .smem S1 .f32) (harg3 : arg3.IsWhole) (x1 : Vec Ideal S1 .f32) :
    kernelRun0_A.sl.r_18 c arg3 harg3 x1 = x1 (ix1 0) := by
  unfold kernelRun0_A.sl.r_18
  rw [View.readAt_eq_ld, harg3.read_unread]
  pointwise

theorem zB_eq (c : Dev nD) (arg3 : Memref sig .tc .smem S1 .f32) (harg3 : arg3.IsWhole) (x1 : Vec Ideal S1 .f32) :
    kernelRun0_B.sl.r c arg3 harg3 x1 = x1 (ix1 0) := by
  unfold kernelRun0_B.sl.r
  rw [View.readAt_eq_ld, harg3.read_unread]
  pointwise

theorem sbPieces_eq (sg : Fin 16 → EReal) (x2 : S1x640x512.Idx → EReal) (z : EReal) (X : Fin 20 → Vec Ideal S1x128x256 .bf16)
    (hX : ∀ (b : Fin 20) (i : S1x128x256.Idx) (k : S1x640x512.Idx) (_ : (k 1).val = 128 * bg b + (i 1).val) (_ : (k 2).val = 256 * bc b + (i 2).val), X b i = x2 k)
    (bs : List (Fin 4)) (p : View.Piece (Elt Ideal) S1x40x512 .fp8e4m3) (hp : p ∈ bs.map (sbPiece (rotV (F := Ideal) sg) X z))
    (x : p.1.shape.Idx) : p.2 x = out6L sg x2 z (p.1.emb x) := by
  obtain ⟨j, _, rfl⟩ := List.mem_map.mp hp
  exact sbVal_eq sg x2 z X hX j x _ ((congrArg (0 + ·) (Nat.one_mul _)).trans (Nat.zero_add _)) (congrArg (128 * j.val + ·) (Nat.one_mul _))

theorem tsPieces_eq (z : EReal) (p : View.Piece (Elt Ideal) S8x128 .f32)
    (hp : p ∈ [(⟨Rect.unit ![0, 0] S8x128.size inb_S8x128_S8x128_0_0, k0_pay14 (F := Ideal) z⟩ : View.Piece (Elt Ideal) S8x128 .f32)])
    (x : p.1.shape.Idx) : p.2 x = (fun _ : S8x128.Idx => tsE z) (p.1.emb x) := by
  obtain rfl := List.mem_singleton.mp hp
  exact pay14_apply z x

/-- A square stored whole. -/
theorem square_eq (w : Vec Ideal S128x128 .bf16) (p : View.Piece (Elt Ideal) S128x128 .bf16)
    (hp : p ∈ [(⟨Rect.unit ![0, 0] S128x128.size inb_S128x128_S128x128_0_0, w⟩ : View.Piece (Elt Ideal) S128x128 .bf16)])
    (x : p.1.shape.Idx) : p.2 x = w (p.1.emb x) := by
  obtain rfl := List.mem_singleton.mp hp
  refine congrArg w (a₁ := x) ?_
  funext a
  match a with
  | 0 => exact Fin.ext ((congrArg (0 + ·) (Nat.one_mul _)).trans (Nat.zero_add _)).symm
  | 1 => exact Fin.ext ((congrArg (0 + ·) (Nat.one_mul _)).trans (Nat.zero_add _)).symm

theorem rotA_eq (c : Dev nD) (arg2 : Memref sig .tc .smem S16 .f32) (harg2 : arg2.IsWhole) (arg10 : Memref sig .tc .vmem S128x128 .bf16) (x0 : Vec Ideal S16 .f32) :
    kernelRun0_A.sl.v16 c arg2 harg2 arg10 x0 = rotV (F := Ideal) fun k => x0 (ix1 k) :=
  (v16_eq c arg2 harg2 arg10 x0).trans (congrArg rotV (funext fun k => loadS_eq arg2 harg2 x0 k))

section
variable (c : Dev nD) (i : grid0.Coords) (arg2 : Memref sig .tc .smem S16 .f32) (harg2 : arg2.IsWhole) (arg3 : Memref sig .tc .smem S1 .f32) (harg3 : arg3.IsWhole) (arg4 : Memref sig .tc .vmem S1x640x512 .bf16) (harg4 : arg4.IsWhole) (arg5 : Memref sig .tc .vmem S1x512x640 .i8) (harg5 : arg5.IsWhole) (arg6 : Memref sig .tc .vmem S1x40x512 .f32) (harg6 : arg6.IsWhole) (arg7 : Memref sig .tc .vmem S1x320x512 .i8) (harg7 : arg7.IsWhole) (arg8 : Memref sig .tc .vmem S1x40x512 .fp8e4m3) (harg8 : arg8.IsWhole) (arg9 : Memref sig .tc .vmem S8x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S80x128 .i32) (harg12 : arg12.IsWhole) (hc0 : ¬cond0_0 i) (x0 : Vec Ideal S16 .f32) (x1 : Vec Ideal S1 .f32) (x2 : Vec Ideal S1x640x512 .bf16) (x3 : Vec Ideal S1x512x640 .i8) (xs0 : Vec Ideal S128x128 .bf16) (xs1 : Vec Ideal S128x128 .bf16)
  (sg : Fin 16 → EReal) (h0 : xs0 = rotV (F := Ideal) sg) (h1 : xs1 = permV)

include h0 in
theorem out4_B : out0_B_4 c i arg2 harg2 arg3 harg3 arg4 harg4 arg5 harg5 arg6 harg6 arg7 harg7 arg8 harg8 arg9 harg9 arg10 harg10 arg11 harg11 arg12 harg12 hc0 x0 x1 x2 x3 xs0 xs1 = out4L sg x2 := by
  funext y
  unfold out0_B_4
  refine View.read_writes_apply_of_pieces _ _ (out4L sg x2) _ ?_ y (cover0_B_4 c i arg2 harg2 arg3 harg3 arg4 harg4 arg5 harg5 arg6 harg6 arg7 harg7 arg8 harg8 arg9 harg9 arg10 harg10 arg11 harg11 arg12 harg12 hc0 x0 x1 x2 x3 xs0 xs1 y)
  rw [amax_B, whole_read, h0]
  exact amaxPieces_eq sg x2 _ (loadX_eq arg4 harg4 x2) blks

include h0 h1 in
theorem out5_B : out0_B_5 c i arg2 harg2 arg3 harg3 arg4 harg4 arg5 harg5 arg6 harg6 arg7 harg7 arg8 harg8 arg9 harg9 arg10 harg10 arg11 harg11 arg12 harg12 hc0 x0 x1 x2 x3 xs0 xs1 = out5L sg x2 x3 (x1 (ix1 0)) := by
  funext y
  unfold out0_B_5
  refine View.read_writes_apply_of_pieces _ _ (out5L sg x2 x3 (x1 (ix1 0))) _ ?_ y (cover0_B_5 c i arg2 harg2 arg3 harg3 arg4 harg4 arg5 harg5 arg6 harg6 arg7 harg7 arg8 harg8 arg9 harg9 arg10 harg10 arg11 harg11 arg12 harg12 hc0 x0 x1 x2 x3 xs0 xs1 y)
  rw [codes_B, whole_read, whole_read, zB_eq, h0, h1]
  exact codePieces_eq sg x2 x3 (x1 (ix1 0)) _ _ (loadX_eq arg4 harg4 x2) (loadY_eq arg5 harg5 x3) _ blks

include h0 in
theorem out6_B : out0_B_6 c i arg2 harg2 arg3 harg3 arg4 harg4 arg5 harg5 arg6 harg6 arg7 harg7 arg8 harg8 arg9 harg9 arg10 harg10 arg11 harg11 arg12 harg12 hc0 x0 x1 x2 x3 xs0 xs1 = out6L sg x2 (x1 (ix1 0)) := by
  funext y
  unfold out0_B_6
  refine View.read_writes_apply_of_pieces _ _ (out6L sg x2 (x1 (ix1 0))) _ ?_ y (cover0_B_6 c i arg2 harg2 arg3 harg3 arg4 harg4 arg5 harg5 arg6 harg6 arg7 harg7 arg8 harg8 arg9 harg9 arg10 harg10 arg11 harg11 arg12 harg12 hc0 x0 x1 x2 x3 xs0 xs1 y)
  rw [sb_B, whole_read, zB_eq, h0]
  exact sbPieces_eq sg x2 (x1 (ix1 0)) _ (loadX_eq arg4 harg4 x2) _

theorem out7_B : out0_B_7 c i arg2 harg2 arg3 harg3 arg4 harg4 arg5 harg5 arg6 harg6 arg7 harg7 arg8 harg8 arg9 harg9 arg10 harg10 arg11 harg11 arg12 harg12 hc0 x0 x1 x2 x3 xs0 xs1 = fun _ => tsE (x1 (ix1 0)) := by
  funext y
  unfold out0_B_7
  refine View.read_writes_apply_of_pieces _ _ (fun _ : S8x128.Idx => tsE (x1 (ix1 0))) _ ?_ y (cover0_B_7 c i arg2 harg2 arg3 harg3 arg4 harg4 arg5 harg5 arg6 harg6 arg7 harg7 arg8 harg8 arg9 harg9 arg10 harg10 arg11 harg11 arg12 harg12 hc0 x0 x1 x2 x3 xs0 xs1 y)
  rw [ts_B, zB_eq]
  exact tsPieces_eq (x1 (ix1 0))
end

section
variable (c : Dev nD) (i : grid0.Coords) (arg2 : Memref sig .tc .smem S16 .f32) (harg2 : arg2.IsWhole) (arg3 : Memref sig .tc .smem S1 .f32) (harg3 : arg3.IsWhole) (arg4 : Memref sig .tc .vmem S1x640x512 .bf16) (harg4 : arg4.IsWhole) (arg5 : Memref sig .tc .vmem S1x512x640 .i8) (harg5 : arg5.IsWhole) (arg6 : Memref sig .tc .vmem S1x40x512 .f32) (harg6 : arg6.IsWhole) (arg7 : Memref sig .tc .vmem S1x320x512 .i8) (harg7 : arg7.IsWhole) (arg8 : Memref sig .tc .vmem S1x40x512 .fp8e4m3) (harg8 : arg8.IsWhole) (arg9 : Memref sig .tc .vmem S8x128 .f32) (harg9 : arg9.IsWhole) (arg10 : Memref sig .tc .vmem S128x128 .bf16) (harg10 : arg10.IsWhole) (arg11 : Memref sig .tc .vmem S128x128 .bf16) (harg11 : arg11.IsWhole) (arg12 : Memref sig .tc .vmem S80x128 .i32) (harg12 : arg12.IsWhole) (hc0 : cond0_0 i) (x0 : Vec Ideal S16 .f32) (x1 : Vec Ideal S1 .f32) (x2 : Vec Ideal S1x640x512 .bf16) (x3 : Vec Ideal S1x512x640 .i8)

theorem out4_A : out0_A_4 c i arg2 harg2 arg3 harg3 arg4 harg4 arg5 harg5 arg6 harg6 arg7 harg7 arg8 harg8 arg9 harg9 arg10 harg10 arg11 harg11 arg12 harg12 hc0 x0 x1 x2 x3 = out4L (fun k => x0 (ix1 k)) x2 := by
  funext y
  unfold out0_A_4
  refine View.read_writes_apply_of_pieces _ _ (out4L (fun k => x0 (ix1 k)) x2) _ ?_ y (cover0_A_4 c i arg2 harg2 arg3 harg3 arg4 harg4 arg5 harg5 arg6 harg6 arg7 harg7 arg8 harg8 arg9 harg9 arg10 harg10 arg11 harg11 arg12 harg12 hc0 x0 x1 x2 x3 y)
  rw [amax_A, rotA_eq]
  exact amaxPieces_eq (fun k => x0 (ix1 k)) x2 _ (loadX_eq arg4 harg4 x2) blks

theorem out5_A : out0_A_5 c i arg2 harg2 arg3 harg3 arg4 harg4 arg5 harg5 arg6 harg6 arg7 harg7 arg8 harg8 arg9 harg9 arg10 harg10 arg11 harg11 arg12 harg12 hc0 x0 x1 x2 x3 = out5L (fun k => x0 (ix1 k)) x2 x3 (x1 (ix1 0)) := by
  funext y
  unfold out0_A_5
  refine View.read_writes_apply_of_pieces _ _ (out5L (fun k => x0 (ix1 k)) x2 x3 (x1 (ix1 0))) _ ?_ y (cover0_A_5 c i arg2 harg2 arg3 harg3 arg4 harg4 arg5 harg5 arg6 harg6 arg7 harg7 arg8 harg8 arg9 harg9 arg10 harg10 arg11 harg11 arg12 harg12 hc0 x0 x1 x2 x3 y)
  rw [codes_A, rotA_eq, v23_eq, zA_eq]
  exact codePieces_eq (fun k => x0 (ix1 k)) x2 x3 (x1 (ix1 0)) _ _ (loadX_eq arg4 harg4 x2) (loadY_eq arg5 harg5 x3) _ blks

theorem out6_A : out0_A_6 c i arg2 harg2 arg3 harg3 arg4 harg4 arg5 harg5 arg6 harg6 arg7 harg7 arg8 harg8 arg9 harg9 arg10 harg10 arg11 harg11 arg12 harg12 hc0 x0 x1 x2 x3 = out6L (fun k => x0 (ix1 k)) x2 (x1 (ix1 0)) := by
  funext y
  unfold out0_A_6
  refine View.read_writes_apply_of_pieces _ _ (out6L (fun k => x0 (ix1 k)) x2 (x1 (ix1 0))) _ ?_ y (cover0_A_6 c i arg2 harg2 arg3 harg3 arg4 harg4 arg5 harg5 arg6 harg6 arg7 harg7 arg8 harg8 arg9 harg9 arg10 harg10 arg11 harg11 arg12 harg12 hc0 x0 x1 x2 x3 y)
  rw [sb_A, rotA_eq, zA_eq]
  exact sbPieces_eq (fun k => x0 (ix1 k)) x2 (x1 (ix1 0)) _ (loadX_eq arg4 harg4 x2) _

theorem out7_A : out0_A_7 c i arg2 harg2 arg3 harg3 arg4 harg4 arg5 harg5 arg6 harg6 arg7 harg7 arg8 harg8 arg9 harg9 arg10 harg10 arg11 harg11 arg12 harg12 hc0 x0 x1 x2 x3 = fun _ => tsE (x1 (ix1 0)) := by
  funext y
  unfold out0_A_7
  refine View.read_writes_apply_of_pieces _ _ (fun _ : S8x128.Idx => tsE (x1 (ix1 0))) _ ?_ y (cover0_A_7 c i arg2 harg2 arg3 harg3 arg4 harg4 arg5 harg5 arg6 harg6 arg7 harg7 arg8 harg8 arg9 harg9 arg10 harg10 arg11 harg11 arg12 harg12 hc0 x0 x1 x2 x3 y)
  rw [ts_A, zA_eq]
  exact tsPieces_eq (x1 (ix1 0))

theorem keptP0_A : (kernelRun0_A c i arg2 harg2 arg3 harg3 arg4 harg4 arg5 harg5 arg6 harg6 arg7 harg7 arg8 harg8 arg9 harg9 arg10 harg10 arg11 harg11 arg12 harg12 hc0 x0 x1 x2 x3).2.2.2.2.1 = [⟨Rect.unit ![0, 0] S128x128.size inb_S128x128_S128x128_0_0, rotV (F := Ideal) (loadS arg2 harg2 x0)⟩] := by
  sl_kernel_rfl

theorem keptP1_A : (kernelRun0_A c i arg2 harg2 arg3 harg3 arg4 harg4 arg5 harg5 arg6 harg6 arg7 harg7 arg8 harg8 arg9 harg9 arg10 harg10 arg11 harg11 arg12 harg12 hc0 x0 x1 x2 x3).2.2.2.2.2.1 = [⟨Rect.unit ![0, 0] S128x128.size inb_S128x128_S128x128_0_0, k0_pay13 (F := Ideal) k0_pay3 k0_pay4 k0_pay5⟩] := by
  sl_kernel_rfl

theorem kept0_A : sout0_A_0 c i arg2 harg2 arg3 harg3 arg4 harg4 arg5 harg5 arg6 harg6 arg7 harg7 arg8 harg8 arg9 harg9 arg10 harg10 arg11 harg11 arg12 harg12 hc0 x0 x1 x2 x3 = rotV (F := Ideal) fun k => x0 (ix1 k) := by
  funext y
  unfold sout0_A_0
  refine View.read_writes_apply_of_pieces _ _ (rotV (F := Ideal) fun k => x0 (ix1 k)) _ ?_ y (scover0_A_0 c i arg2 harg2 arg3 harg3 arg4 harg4 arg5 harg5 arg6 harg6 arg7 harg7 arg8 harg8 arg9 harg9 arg10 harg10 arg11 harg11 arg12 harg12 hc0 x0 x1 x2 x3 y)
  rw [keptP0_A, show loadS arg2 harg2 x0 = fun k => x0 (ix1 k) from funext fun k => loadS_eq arg2 harg2 x0 k]
  exact square_eq (rotV (F := Ideal) fun k => x0 (ix1 k))

theorem kept1_A : sout0_A_1 c i arg2 harg2 arg3 harg3 arg4 harg4 arg5 harg5 arg6 harg6 arg7 harg7 arg8 harg8 arg9 harg9 arg10 harg10 arg11 harg11 arg12 harg12 hc0 x0 x1 x2 x3 = permV := by
  funext y
  unfold sout0_A_1
  refine View.read_writes_apply_of_pieces _ _ permV _ ?_ y (scover0_A_1 c i arg2 harg2 arg3 harg3 arg4 harg4 arg5 harg5 arg6 harg6 arg7 harg7 arg8 harg8 arg9 harg9 arg10 harg10 arg11 harg11 arg12 harg12 hc0 x0 x1 x2 x3 y)
  rw [keptP1_A]
  exact square_eq permV
end

end Cert.Quant

end
-- ==== Proof.KGrid.lean ====
/- What each grid point leaves, in the launch's own arguments. -/
module

public import proofs.«01_k».proof.Proof.KOut
public import proofs.«01_k».proof.Proof.Gen.KernelIdeal.Value
public import Idealize.ShloMosaic.Lib.Claim

@[expose] public section

noncomputable section

namespace Cert.Quant

open Cert.KernelIdeal Cert.KernelIdeal.Gen Idealize.ShloMosaic Idealize.ShloMosaic.TcCoe Idealize.SL.Sem

variable (m : (ℓ : Loc nD τ sig) → Buf (Elt Ideal) ℓ) (c : Dev nD)

/-- The launch's arguments. -/
def argX : S2x640x18432.Idx → EReal := m ((c : Thread nD τ).loc main_arg0)
def argS : S16.Idx → EReal := m ((c : Thread nD τ).loc main_arg1)
def argY : S2x18432x640.Idx → BitVec 8 := m ((c : Thread nD τ).loc main_arg2)
def argZ : S_.Idx → EReal := m ((c : Thread nD τ).loc main_arg3)

theorem V_v0 : (Gen.V m c main_v0 : S1.Idx → EReal) (ix1 0) = argZ m c ix0 := by
  have h : Gen.V m c main_v0 = shapeCast S1 (m ((c : Thread nD τ).loc main_arg3)) shapeCasts_S_S1 := by
    unfold Gen.V
    after_results_simp <;> rfl
  rw [h]
  refine (shapeCast_apply _ shapeCasts_S_S1 _ ix0 (by decide)).trans ?_
  rfl

theorem blk0_eq (t : Fin cfg0.N) (k : Fin 16) : (Gen.iblk m c 0 t : S16.Idx → EReal) (ix1 k) = argS m c (ix1 k) := by
  refine Eq.trans (b := Gen.V m c main_arg1 (((cfg0.win 0).blk t).view.emb (ix1 k))) rfl ?_
  rw [Gen.V_main_arg1]
  unfold argS
  congr 1
  funext a
  apply Fin.ext
  blk_simp
  have h : ∀ (t : Fin cfg0.N) (a : Fin 1), win0_0.index t a = 0 := by decide +kernel
  have := h t a
  rw [this, Nat.zero_mul, Nat.zero_add]

theorem blk1_eq (t : Fin cfg0.N) : (Gen.iblk m c 1 t : S1.Idx → EReal) (ix1 0) = argZ m c ix0 := by
  refine Eq.trans (b := (Gen.V m c main_v0 : S1.Idx → EReal) (((cfg0.win 1).blk t).view.emb (ix1 0))) rfl ?_
  refine Eq.trans ?_ (V_v0 m c)
  congr 1
  funext a
  match a with
  | 0 => exact Subsingleton.elim (α := Fin 1) _ _

theorem blk2_eq (t : Fin cfg0.N) (i : S1x640x512.Idx) (k : S2x640x18432.Idx) (h0 : (k 0).val = t.val / 36) (h1 : (k 1).val = (i 1).val)
    (h2 : (k 2).val = 512 * (t.val % 36) + (i 2).val) : (Gen.iblk m c 2 t : S1x640x512.Idx → EReal) i = argX m c k := by
  refine Eq.trans (b := Gen.V m c main_arg0 (((cfg0.win 2).blk t).view.emb i)) rfl ?_
  rw [Gen.V_main_arg0]
  unfold argX
  congr 1
  have h : ∀ t : Fin cfg0.N, win0_2.index t (0 : Fin 3) = t.val / 36 ∧ win0_2.index t (1 : Fin 3) = 0 ∧ win0_2.index t (2 : Fin 3) = t.val % 36 :=
    (by decide +kernel : ∀ t : Fin grid0.N, _)
  obtain ⟨e0, e1, e2⟩ := h t
  have hi : (i 0).val = 0 := by have := (i 0).isLt; change (i 0).val < 1 at this; omega
  funext a
  apply Fin.ext
  match a with
  | 0 => refine Eq.trans (b := win0_2.index t (0 : Fin 3) * 1 + 1 * (i 0).val) rfl ?_; omega
  | 1 => refine Eq.trans (b := win0_2.index t (1 : Fin 3) * 640 + 1 * (i 1).val) rfl ?_; omega
  | 2 => refine Eq.trans (b := win0_2.index t (2 : Fin 3) * 512 + 1 * (i 2).val) rfl ?_; omega

theorem blk3_eq (t : Fin cfg0.N) (i : S1x512x640.Idx) (k : S2x18432x640.Idx) (h0 : (k 0).val = t.val / 36) (h1 : (k 1).val = 512 * (t.val % 36) + (i 1).val)
    (h2 : (k 2).val = (i 2).val) : (Gen.iblk m c 3 t : S1x512x640.Idx → BitVec 8) i = argY m c k := by
  refine Eq.trans (b := Gen.V m c main_arg2 (((cfg0.win 3).blk t).view.emb i)) rfl ?_
  rw [Gen.V_main_arg2]
  unfold argY
  congr 1
  have h : ∀ t : Fin cfg0.N, win0_3.index t (0 : Fin 3) = t.val / 36 ∧ win0_3.index t (1 : Fin 3) = t.val % 36 ∧ win0_3.index t (2 : Fin 3) = 0 :=
    (by decide +kernel : ∀ t : Fin grid0.N, _)
  obtain ⟨e0, e1, e2⟩ := h t
  have hi : (i 0).val = 0 := by have := (i 0).isLt; change (i 0).val < 1 at this; omega
  funext a
  apply Fin.ext
  match a with
  | 0 => refine Eq.trans (b := win0_3.index t (0 : Fin 3) * 1 + 1 * (i 0).val) rfl ?_; omega
  | 1 => refine Eq.trans (b := win0_3.index t (1 : Fin 3) * 512 + 1 * (i 1).val) rfl ?_; omega
  | 2 => refine Eq.trans (b := win0_3.index t (2 : Fin 3) * 640 + 1 * (i 2).val) rfl ?_; omega

/-- The signs, as the function the matrices are built from. -/
def sgM : Fin 16 → EReal := fun k => argS m c (ix1 k)

/-- The state the first point leaves: its four results and the two matrices it builds. -/
theorem step_A (t : Fin cfg0.N) (h : t.val % 72 = 0) : Gen.outsAt0 m c t.val t.isLt
    = (out4L (sgM m c) (Gen.iblk m c 2 t), out5L (sgM m c) (Gen.iblk m c 2 t) (Gen.iblk m c 3 t) (argZ m c ix0),
      out6L (sgM m c) (Gen.iblk m c 2 t) (argZ m c ix0), (fun _ => tsE (argZ m c ix0)), rotV (F := Ideal) (sgM m c), permV) := by
  have hs : (fun k => (Gen.iblk m c 0 t : S16.Idx → EReal) (ix1 k)) = sgM m c := funext fun k => blk0_eq m c t k
  have hz := blk1_eq m c t
  refine (Gen.outsAt0_A m c t h).trans ?_
  rw [out4_A, out5_A, out6_A, out7_A, kept0_A, kept1_A]
  rw [hs, hz]

/-- A later point leaves its four results and keeps the matrices. -/
theorem step_B (t : Fin cfg0.N) (h : ¬t.val % 72 = 0)
    (h0 : (Gen.outsAt0 m c (t.val - 1) (Nat.lt_of_le_of_lt (Nat.sub_le _ _) t.isLt)).2.2.2.2.1 = rotV (F := Ideal) (sgM m c))
    (h1 : (Gen.outsAt0 m c (t.val - 1) (Nat.lt_of_le_of_lt (Nat.sub_le _ _) t.isLt)).2.2.2.2.2 = permV) : Gen.outsAt0 m c t.val t.isLt
    = (out4L (sgM m c) (Gen.iblk m c 2 t), out5L (sgM m c) (Gen.iblk m c 2 t) (Gen.iblk m c 3 t) (argZ m c ix0),
      out6L (sgM m c) (Gen.iblk m c 2 t) (argZ m c ix0), (fun _ => tsE (argZ m c ix0)), rotV (F := Ideal) (sgM m c), permV) := by
  have hz := blk1_eq m c t
  refine (Gen.outsAt0_B m c t h).trans ?_
  generalize (Gen.outsAt0 m c (t.val - 1) (Nat.lt_of_le_of_lt (Nat.sub_le _ _) t.isLt)).2.2.2.2.1 = xs0 at h0 ⊢
  generalize (Gen.outsAt0 m c (t.val - 1) (Nat.lt_of_le_of_lt (Nat.sub_le _ _) t.isLt)).2.2.2.2.2 = xs1 at h1 ⊢
  rw [out4_B (h0 := h0), out5_B (h0 := h0) (h1 := h1), out6_B (h0 := h0), out7_B]
  unfold sout0_B_0 sout0_B_1
  rw [h0, h1, hz]

/-- The carried state after any point: the point's four results and the two matrices the first point built. -/
theorem outs_eq : ∀ (n : ℕ) (hn : n < cfg0.N), Gen.outsAt0 m c n hn
    = (out4L (sgM m c) (Gen.iblk m c 2 ⟨n, hn⟩), out5L (sgM m c) (Gen.iblk m c 2 ⟨n, hn⟩) (Gen.iblk m c 3 ⟨n, hn⟩) (argZ m c ix0),
      out6L (sgM m c) (Gen.iblk m c 2 ⟨n, hn⟩) (argZ m c ix0), (fun _ => tsE (argZ m c ix0)), rotV (F := Ideal) (sgM m c), permV)
  | 0, hn => step_A m c ⟨0, hn⟩ (Nat.zero_mod _)
  | n + 1, hn => by
    have hN := lt_of_lt_of_eq hn (show cfg0.N = 72 from N_0)
    have ih := outs_eq n (Nat.lt_of_succ_lt hn)
    refine step_B m c ⟨n + 1, hn⟩ (by show ¬(n + 1) % 72 = 0; omega) ?_ ?_
    · exact (congrArg (fun s => s.2.2.2.2.1) ih)
    · exact (congrArg (fun s => s.2.2.2.2.2) ih)
end Cert.Quant
end
-- ==== Proof.KFinal.lean ====
/- The kernel's four results, in the launch's own arguments. -/
module

public import proofs.«01_k».proof.Proof.KGrid

@[expose] public section

noncomputable section

namespace Cert.Quant

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

section
variable (t : Fin cfg0.N) (b : Fin 2) (l : Fin 512) (L : Fin 18432) (hb : b.val = t.val / 36) (hL : L.val = 512 * (t.val % 36) + l.val)
include hb hL

theorem rowL_at (n : Fin 40) (i : Fin 16) : rowL (sgM m c) (Gen.iblk m c 2 t) n i l = rotAt (argX m c) (argS m c) b n i L := by
  unfold rowL rotAt
  refine Finset.sum_congr rfl fun j _ => ?_
  exact congrArg _ (blk2_eq m c t _ _ hb rfl hL)

theorem amL_at (n : Fin 40) : amL (sgM m c) (Gen.iblk m c 2 t) n l = amaxAt (argX m c) (argS m c) b n L := by
  unfold amL amaxAt
  refine congrArg (Finset.univ.sup (α := EReal)) (funext fun i => ?_)
  rw [rowL_at m c t b l L hb hL]

theorem nibL_at (n : Fin 40) (i : Fin 16) : nibL (sgM m c) (Gen.iblk m c 2 t) (Gen.iblk m c 3 t) (argZ m c ix0) n i l
    = nibG (argX m c) (argS m c) (argY m c) (argZ m c) b n i L := by
  unfold nibL nibG invL invAt
  rw [rowL_at m c t b l L hb hL, amL_at m c t b l L hb hL]
  rw [blk3_eq m c t (ix3 0 l ⟨16 * n.val + i.val, by omega⟩) (ix3 b L ⟨16 * n.val + i.val, by omega⟩) hb hL rfl]
end

theorem G4_eq : G4 m c = res0 (argX m c) (argS m c) := by
  funext i
  have h0 : (i 0).val < 2 := (i 0).isLt
  have h1 : (i 1).val < 40 := (i 1).isLt
  have h2 : (i 2).val < 18432 := (i 2).isLt
  have hp : pt4Of i = 36 * (i 0).val + (i 2).val / 512 := by
    show 36 * ((i 0).val / 1 - 0) + 36 * ((i 1).val / 40 - 0) + 1 * ((i 2).val / 512 - 0) = _
    omega
  have hN : pt4Of i < cfg0.N := lt_of_lt_of_eq (by omega) (show cfg0.N = 72 from N_0).symm
  unfold G4
  rw [dif_pos hN, ← outsAt0_sweep m c (pt4Of i) hN, outs_eq m c (pt4Of i) hN]
  have hn : (⟨(i 1).val % 40, by omega⟩ : Fin 40) = i 1 := Fin.ext (Nat.mod_eq_of_lt h1)
  refine (amL_at m c ⟨pt4Of i, hN⟩ (i 0) ⟨(i 2).val % 512, by omega⟩ (i 2) ?_ ?_ ⟨(i 1).val % 40, by omega⟩).trans ?_
  · show (i 0).val = pt4Of i / 36; omega
  · show (i 2).val = 512 * (pt4Of i % 36) + (i 2).val % 512; omega
  · rw [hn]; rfl

theorem G6_eq : G6 m c = res2 (argX m c) (argS m c) (argZ m c) := by
  funext i
  have h0 : (i 0).val < 2 := (i 0).isLt
  have h1 : (i 1).val < 40 := (i 1).isLt
  have h2 : (i 2).val < 18432 := (i 2).isLt
  have hp : pt6Of i = 36 * (i 0).val + (i 2).val / 512 := by
    show 36 * ((i 0).val / 1 - 0) + 36 * ((i 1).val / 40 - 0) + 1 * ((i 2).val / 512 - 0) = _
    omega
  have hN : pt6Of i < cfg0.N := lt_of_lt_of_eq (by omega) (show cfg0.N = 72 from N_0).symm
  unfold G6
  rw [dif_pos hN, ← outsAt0_sweep m c (pt6Of i) hN, outs_eq m c (pt6Of i) hN]
  have hn : (⟨(i 1).val % 40, by omega⟩ : Fin 40) = i 1 := Fin.ext (Nat.mod_eq_of_lt h1)
  refine (congrArg (fun a => sbE a (tsE (argZ m c ix0))) (amL_at m c ⟨pt6Of i, hN⟩ (i 0) ⟨(i 2).val % 512, by omega⟩ (i 2) ?_ ?_ ⟨(i 1).val % 40, by omega⟩)).trans ?_
  · show (i 0).val = pt6Of i / 36; omega
  · show (i 2).val = 512 * (pt6Of i % 36) + (i 2).val % 512; omega
  · rw [hn]; rfl

theorem G5_eq : G5 m c = res1 (argX m c) (argS m c) (argY m c) (argZ m c) := by
  funext i
  have h0 : (i 0).val < 2 := (i 0).isLt
  have h1 : (i 1).val < 320 := (i 1).isLt
  have h2 : (i 2).val < 18432 := (i 2).isLt
  have hp : pt5Of i = 36 * (i 0).val + (i 2).val / 512 := by
    show 36 * ((i 0).val / 1 - 0) + 36 * ((i 1).val / 320 - 0) + 1 * ((i 2).val / 512 - 0) = _
    omega
  have hN : pt5Of i < cfg0.N := lt_of_lt_of_eq (by omega) (show cfg0.N = 72 from N_0).symm
  unfold G5
  rw [dif_pos hN, ← outsAt0_sweep m c (pt5Of i) hN, outs_eq m c (pt5Of i) hN]
  have hn : (⟨(i 1).val % 320, by omega⟩ : Fin 320) = i 1 := Fin.ext (Nat.mod_eq_of_lt h1)
  have e := nibL_at m c ⟨pt5Of i, hN⟩ (i 0) ⟨(i 2).val % 512, by omega⟩ (i 2) (by show (i 0).val = pt5Of i / 36; omega)
    (by show (i 2).val = 512 * (pt5Of i % 36) + (i 2).val % 512; omega)
  refine Eq.trans (b := BitVec.ofNat 8 (nibL (sgM m c) (Gen.iblk m c 2 ⟨pt5Of i, hN⟩) (Gen.iblk m c 3 ⟨pt5Of i, hN⟩) (argZ m c ix0)
      ⟨(i 1).val % 320 / 8, by omega⟩ ⟨2 * ((i 1).val % 320 % 8), by omega⟩ ⟨(i 2).val % 512, by omega⟩
    + 16 * nibL (sgM m c) (Gen.iblk m c 2 ⟨pt5Of i, hN⟩) (Gen.iblk m c 3 ⟨pt5Of i, hN⟩) (argZ m c ix0)
      ⟨(i 1).val % 320 / 8, by omega⟩ ⟨2 * ((i 1).val % 320 % 8) + 1, by omega⟩ ⟨(i 2).val % 512, by omega⟩)) rfl ?_
  rw [e, e]
  unfold res1
  simp only [Nat.mod_eq_of_lt h1]

theorem G7_eq : G7 m c = res3 (argZ m c) := by
  rw [G7_last, ← outsAt0_sweep m c 71 (lt_of_lt_of_eq (by decide) N_0.symm), outs_eq m c 71 (lt_of_lt_of_eq (by decide) N_0.symm)]
  rfl
end Cert.Quant
end
-- ==== Proof.lean ====
module

public import proofs.«01_k».proof.Defs
public import proofs.«01_k».proof.Proof.Gen.Kernel.Frame
public import proofs.«01_k».proof.Proof.KFinal

@[expose] public section

noncomputable section

namespace Cert.Proof

open Idealize.ShloMosaic Idealize.SL.Sem

open Cert.Quant in
/-- Kernel and reference end with the same four arrays: the largest magnitudes, the packed codes, the block scales and the tensor scale. -/
theorem equal_results : Cert.algebraic_KernelIdeal_ReferenceIdeal (hKernelIdeal := Cert.KernelIdeal.Gen.facts) (hReferenceIdeal := Cert.ReferenceIdeal.Gen.facts) := by
  intro m g m' g' _ hm
  refine ⟨fun c => res0 (argX m c) (argS m c), fun c => res1 (argX m c) (argS m c) (argY m c) (argZ m c),
    fun c => res2 (argX m c) (argS m c) (argZ m c), fun c => res3 (argZ m c), ?_, ?_⟩
  · refine (θ_run _ _ _).mono (fun r h c => ?_) (Cert.KernelIdeal.Value.run m g)
    obtain ⟨h0, h1, h2, h3, hk⟩ := h c
    exact ⟨h0.trans (G4_eq m c), h1.trans (G5_eq m c), h2.trans (G6_eq m c), h3.trans (G7_eq m c), hk⟩
  · refine (θ_run _ _ _).mono (fun r h c => ?_) (ref_run m' g')
    obtain ⟨h0, h1, h2, h3, hk⟩ := h c
    obtain ⟨e0, e1, e2, e3⟩ := hm c
    rw [e0, e1] at h0
    rw [e0, e1, e2, e3] at h1
    rw [e0, e1, e3] at h2
    rw [e3] at h3
    exact ⟨h0, h1, h2, h3, hk⟩

/-- Every claim: the three programs leave their arguments alone and end, and the kernel's results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal_results⟩

end Cert.Proof

end
